-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_d_out [hPre_finite_d_out : Cert.Pre_finite_d_out.Facts] (m : (ℓ : Loc Cert.KernelIdeal.nD Cert.KernelIdeal.τ Cert.KernelIdeal.sig) → Buf (Elt Ideal) ℓ) : Prop :=
  ∀ c : Dev Cert.KernelIdeal.nD,
    (Cert.Pre_finite_d_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_d_out [hPre_finite_d_out : Cert.Pre_finite_d_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_d_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_d_out [hKernelIdeal : Cert.KernelIdeal.Facts] [hPre_finite_d_out : Cert.Pre_finite_d_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_d_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_d_out [hReferenceIdeal : Cert.ReferenceIdeal.Facts] [hPre_finite_d_out : Cert.Pre_finite_d_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_d_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_d_out [hKernelIdeal : Cert.KernelIdeal.Facts] [hReferenceIdeal : Cert.ReferenceIdeal.Facts] [hPre_finite_d_out : Cert.Pre_finite_d_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_d_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_d_out : Cert.Pre_finite_d_out.Facts),
    quiescent_Kernel (hKernel := hKernel)
    ∧ quiescent_KernelIdeal (hKernelIdeal := hKernelIdeal)
    ∧ quiescent_KernelIdeal_pre_finite_d_out (hKernelIdeal := hKernelIdeal) (hPre_finite_d_out := hPre_finite_d_out)
    ∧ quiescent_ReferenceIdeal (hReferenceIdeal := hReferenceIdeal)
    ∧ quiescent_ReferenceIdeal_pre_finite_d_out (hReferenceIdeal := hReferenceIdeal) (hPre_finite_d_out := hPre_finite_d_out)
    ∧ preserves_Kernel_KernelIdeal
    ∧ algebraic_KernelIdeal_ReferenceIdeal_pre_finite_d_out (hKernelIdeal := hKernelIdeal) (hReferenceIdeal := hReferenceIdeal) (hPre_finite_d_out := hPre_finite_d_out)
-- ==== Pre_finite_d_out.lean ====
abbrev S120x10x96 : Shape := ⟨3, ![120, 10, 96]⟩
abbrev S2x65536x10x96 : Shape := ⟨4, ![2, 65536, 10, 96]⟩
abbrev S2x10 : Shape := ⟨2, ![2, 10]⟩
abbrev S2x120x10x96 : Shape := ⟨4, ![2, 120, 10, 96]⟩
abbrev S2x10x120 : Shape := ⟨3, ![2, 10, 120]⟩
abbrev S_ : Shape := ⟨0, ![]⟩

class Facts : Prop where
  bitsLt_bf16_f32 : FTy.bits .bf16 < FTy.bits .f32
  bcast_S_S2x120x10x96 : S_.BroadcastsInDim S2x120x10x96 (![] : Fin 0 → Fin S2x120x10x96.rank)

variable [Facts]

def fn {F : FTy → Type} [FloatOps F] (main_arg0 : FVec F S120x10x96 .bf16) (main_arg1 : FVec F S2x65536x10x96 .fp8e4m3) (main_arg2 : FVec F S2x10 .f32) (main_arg3 : FVec F S2x65536x10x96 .fp8e4m3) (main_arg4 : FVec F S2x10 .f32) (main_arg5 : FVec F S2x120x10x96 .bf16) (main_arg6 : FVec F S2x10x120 .f32) (main_arg7 : FVec F S2x120x10x96 .bf16) : IVec S2x120x10x96 1 :=
  let main_v0 : FVec F S2x120x10x96 .f32 := (extf .f32 · bitsLt_bf16_f32) main_arg7
  let main_v1 : FVec F S2x120x10x96 .f32 := Host.absf main_v0
  let main_cst : FVec F S_ .f32 := constant S_ .f32 0x7F7F0000#32
  let main_v2 : FVec F S2x120x10x96 .f32 := broadcastInDim S2x120x10x96 ![] bcast_S_S2x120x10x96 main_cst
  let main_v3 : IVec S2x120x10x96 1 := cmpf .ole main_v1 main_v2
  main_v3
-- ==== Kernel.lean ====
abbrev S120x10x96 : Shape := ⟨3, ![120, 10, 96]⟩
abbrev S2x65536x10x96 : Shape := ⟨4, ![2, 65536, 10, 96]⟩
abbrev S2x10 : Shape := ⟨2, ![2, 10]⟩
abbrev S2x120x10x96 : Shape := ⟨4, ![2, 120, 10, 96]⟩
abbrev S2x10x120 : Shape := ⟨3, ![2, 10, 120]⟩
abbrev S10x96x120 : Shape := ⟨3, ![10, 96, 120]⟩
abbrev S2x10x96x120 : Shape := ⟨4, ![2, 10, 96, 120]⟩
abbrev S10x2x120 : Shape := ⟨3, ![10, 2, 120]⟩
abbrev S2x10x96x65536 : Shape := ⟨4, ![2, 10, 96, 65536]⟩
abbrev S1x1x96x8192 : Shape := ⟨4, ![1, 1, 96, 8192]⟩
abbrev S1x96x120 : Shape := ⟨3, ![1, 96, 120]⟩
abbrev S1x1x96x120 : Shape := ⟨4, ![1, 1, 96, 120]⟩
abbrev S10x120x96 : Shape := ⟨3, ![10, 120, 96]⟩
abbrev S20x128x96 : Shape := ⟨3, ![20, 128, 96]⟩
abbrev S20x192x240 : Shape := ⟨3, ![20, 192, 240]⟩
abbrev S20x120x128 : Shape := ⟨3, ![20, 120, 128]⟩
abbrev S20x8x128 : Shape := ⟨3, ![20, 8, 128]⟩
abbrev S96x128 : Shape := ⟨2, ![96, 128]⟩
abbrev S96x120 : Shape := ⟨2, ![96, 120]⟩
abbrev S120x96 : Shape := ⟨2, ![120, 96]⟩
abbrev S1x120x96 : Shape := ⟨3, ![1, 120, 96]⟩
abbrev S120 : Shape := ⟨1, ![120]⟩
abbrev S1x120 : Shape := ⟨2, ![1, 120]⟩
abbrev S1 : Shape := ⟨1, ![1]⟩
abbrev S1x1 : Shape := ⟨2, ![1, 1]⟩
abbrev S256x1 : Shape := ⟨2, ![256, 1]⟩
abbrev S8x96 : Shape := ⟨2, ![8, 96]⟩
abbrev S128x96 : Shape := ⟨2, ![128, 96]⟩
abbrev S1x128x96 : Shape := ⟨3, ![1, 128, 96]⟩
abbrev S96x240 : Shape := ⟨2, ![96, 240]⟩
abbrev S192x240 : Shape := ⟨2, ![192, 240]⟩
abbrev S1x192x240 : Shape := ⟨3, ![1, 192, 240]⟩
abbrev S128x120 : Shape := ⟨2, ![128, 120]⟩
abbrev S120x128 : Shape := ⟨2, ![120, 128]⟩
abbrev S1x120x128 : Shape := ⟨3, ![1, 120, 128]⟩
abbrev S1x1x120 : Shape := ⟨3, ![1, 1, 120]⟩
abbrev S8x128 : Shape := ⟨2, ![8, 128]⟩
abbrev S1x8x128 : Shape := ⟨3, ![1, 8, 128]⟩
abbrev S1x1x96x256 : Shape := ⟨4, ![1, 1, 96, 256]⟩
abbrev S96x256 : Shape := ⟨2, ![96, 256]⟩
abbrev S120x256 : Shape := ⟨2, ![120, 256]⟩
abbrev S128x256 : Shape := ⟨2, ![128, 256]⟩
abbrev S240x256 : Shape := ⟨2, ![240, 256]⟩
abbrev S192x256 : Shape := ⟨2, ![192, 256]⟩

abbrev nBuf : Space → Nat
  | .hbm => 25
  | .vmem => 27
  | .smem => 2
  | _ => 0

abbrev bufTy : (tb : Table) → Fin (tcTables nBuf tb) → BufTy
  | .hbm, ⟨0, _⟩ => ⟨S120x10x96, .bf16⟩
  | .hbm, ⟨1, _⟩ => ⟨S2x65536x10x96, .fp8e4m3⟩
  | .hbm, ⟨2, _⟩ => ⟨S2x10, .f32⟩
  | .hbm, ⟨3, _⟩ => ⟨S2x65536x10x96, .fp8e4m3⟩
  | .hbm, ⟨4, _⟩ => ⟨S2x10, .f32⟩
  | .hbm, ⟨5, _⟩ => ⟨S2x120x10x96, .bf16⟩
  | .hbm, ⟨6, _⟩ => ⟨S2x10x120, .f32⟩
  | .hbm, ⟨7, _⟩ => ⟨S2x120x10x96, .bf16⟩
  | .hbm, ⟨8, _⟩ => ⟨S10x96x120, .bf16⟩
  | .hbm, ⟨9, _⟩ => ⟨S2x10x96x120, .bf16⟩
  | .hbm, ⟨10, _⟩ => ⟨S2x10x96x120, .bf16⟩
  | .hbm, ⟨11, _⟩ => ⟨S10x2x120, .f32⟩
  | .hbm, ⟨12, _⟩ => ⟨S2x10x96x65536, .fp8e4m3⟩
  | .hbm, ⟨13, _⟩ => ⟨S2x10x96x65536, .fp8e4m3⟩
  | .hbm, ⟨14, _⟩ => ⟨S10x96x120, .bf16⟩
  | .hbm, ⟨15, _⟩ => ⟨S2x10x96x120, .f32⟩
  | .hbm, ⟨16, _⟩ => ⟨S2x10x96x65536, .bf16⟩
  | .hbm, ⟨17, _⟩ => ⟨S2x10x96x65536, .bf16⟩
  | .hbm, ⟨18, _⟩ => ⟨S2x10x96x120, .fp8e5m2⟩
  | .hbm, ⟨19, _⟩ => ⟨S2x10, .f32⟩
  | .hbm, ⟨20, _⟩ => ⟨S120x10x96, .bf16⟩
  | .hbm, ⟨21, _⟩ => ⟨S2x120x10x96, .f32⟩
  | .hbm, ⟨22, _⟩ => ⟨S2x65536x10x96, .bf16⟩
  | .hbm, ⟨23, _⟩ => ⟨S2x65536x10x96, .bf16⟩
  | .hbm, ⟨24, _⟩ => ⟨S2x120x10x96, .fp8e5m2⟩
  | .local _ .vmem, ⟨0, _⟩ => ⟨S10x96x120, .bf16⟩
  | .local _ .vmem, ⟨1, _⟩ => ⟨S2x10x96x120, .bf16⟩
  | .local _ .vmem, ⟨2, _⟩ => ⟨S2x10x96x120, .bf16⟩
  | .local _ .vmem, ⟨3, _⟩ => ⟨S10x2x120, .f32⟩
  | .local _ .vmem, ⟨4, _⟩ => ⟨S1x1x96x8192, .fp8e4m3⟩
  | .local _ .vmem, ⟨5, _⟩ => ⟨S1x1x96x8192, .fp8e4m3⟩
  | .local _ .vmem, ⟨6, _⟩ => ⟨S1x1x96x8192, .fp8e4m3⟩
  | .local _ .vmem, ⟨7, _⟩ => ⟨S1x1x96x8192, .fp8e4m3⟩
  | .local _ .vmem, ⟨8, _⟩ => ⟨S1x96x120, .bf16⟩
  | .local _ .vmem, ⟨9, _⟩ => ⟨S1x96x120, .bf16⟩
  | .local _ .vmem, ⟨10, _⟩ => ⟨S1x1x96x120, .f32⟩
  | .local _ .vmem, ⟨11, _⟩ => ⟨S1x1x96x120, .f32⟩
  | .local _ .vmem, ⟨12, _⟩ => ⟨S1x1x96x8192, .bf16⟩
  | .local _ .vmem, ⟨13, _⟩ => ⟨S1x1x96x8192, .bf16⟩
  | .local _ .vmem, ⟨14, _⟩ => ⟨S1x1x96x8192, .bf16⟩
  | .local _ .vmem, ⟨15, _⟩ => ⟨S1x1x96x8192, .bf16⟩
  | .local _ .vmem, ⟨16, _⟩ => ⟨S2x10x96x120, .fp8e5m2⟩
  | .local _ .vmem, ⟨17, _⟩ => ⟨S2x10, .f32⟩
  | .local _ .vmem, ⟨18, _⟩ => ⟨S10x120x96, .bf16⟩
  | .local _ .vmem, ⟨19, _⟩ => ⟨S20x128x96, .fp8e5m2⟩
  | .local _ .vmem, ⟨20, _⟩ => ⟨S20x192x240, .bf16⟩
  | .local _ .vmem, ⟨21, _⟩ => ⟨S20x120x128, .f32⟩
  | .local _ .vmem, ⟨22, _⟩ => ⟨S20x120x128, .f32⟩
  | .local _ .vmem, ⟨23, _⟩ => ⟨S20x8x128, .f32⟩
  | .local _ .vmem, ⟨24, _⟩ => ⟨S20x8x128, .f32⟩
  | .local _ .vmem, ⟨25, _⟩ => ⟨S96x128, .f32⟩
  | .local _ .vmem, ⟨26, _⟩ => ⟨S96x120, .f32⟩
  | .local _ .smem, ⟨0, _⟩ => ⟨S2x10, .f32⟩
  | .local _ .smem, ⟨1, _⟩ => ⟨S2x10, .f32⟩
  | _, _ => ⟨S120x10x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨3, ![10, 2, 8], ![false, false, false]⟩

def k0_off1 (i : grid0.Coords) : Fin 2 → Nat :=
  let arg1 : BitVec 32 := BitVec.ofNat 32 (i 1).val
  let v12 : Index := Scalar.indexCast arg1
  let arg0 : BitVec 32 := BitVec.ofNat 32 (i 0).val
  let v13 : Index := Scalar.indexCast arg0
  ![v12.toNat, v13.toNat]
def k0_off2 (i : grid0.Coords) : Fin 3 → Nat :=
  let arg0 : BitVec 32 := BitVec.ofNat 32 (i 0).val
  let v21 : Index := Scalar.indexCast arg0
  let c0_11 : Index := 0#32
  let c0_12 : Index := 0#32
  ![v21.toNat, 0, 0]
def k0_off3 (i : grid0.Coords) : Fin 3 → Nat :=
  let arg0 : BitVec 32 := BitVec.ofNat 32 (i 0).val
  let c2_i32 : BitVec 32 := 2#32
  let v10 : BitVec 32 := Scalar.muli arg0 c2_i32
  let arg1 : BitVec 32 := BitVec.ofNat 32 (i 1).val
  let v11 : BitVec 32 := Scalar.addi v10 arg1
  let v25 : Index := Scalar.indexCast v11
  let c0_14 : Index := 0#32
  let c0_15 : Index := 0#32
  ![v25.toNat, 0, 0]
def k0_off4 (i : grid0.Coords) : Fin 3 → Nat :=
  let arg0 : BitVec 32 := BitVec.ofNat 32 (i 0).val
  let c2_i32 : BitVec 32 := 2#32
  let v10 : BitVec 32 := Scalar.muli arg0 c2_i32
  let arg1 : BitVec 32 := BitVec.ofNat 32 (i 1).val
  let v11 : BitVec 32 := Scalar.addi v10 arg1
  let v32 : Index := Scalar.indexCast v11
  let c0_21 : Index := 0#32
  let c0_22 : Index := 0#32
  ![v32.toNat, 0, 0]
def k0_off5 (i : grid0.Coords) : Fin 3 → Nat :=
  let arg0 : BitVec 32 := BitVec.ofNat 32 (i 0).val
  let c2_i32 : BitVec 32 := 2#32
  let v10 : BitVec 32 := Scalar.muli arg0 c2_i32
  let arg1 : BitVec 32 := BitVec.ofNat 32 (i 1).val
  let v11 : BitVec 32 := Scalar.addi v10 arg1
  let v44 : Index := Scalar.indexCast v11
  let c0_25 : Index := 0#32
  let c0_26 : Index := 0#32
  ![v44.toNat, 0, 0]
def k0_off6 (i : grid0.Coords) : Fin 3 → Nat :=
  let arg0 : BitVec 32 := BitVec.ofNat 32 (i 0).val
  let c2_i32 : BitVec 32 := 2#32
  let v10 : BitVec 32 := Scalar.muli arg0 c2_i32
  let arg1 : BitVec 32 := BitVec.ofNat 32 (i 1).val
  let v11 : BitVec 32 := Scalar.addi v10 arg1
  let v129 : Index := Scalar.indexCast v11
  let c0_65 : Index := 0#32
  let c0_66 : Index := 0#32
  ![v129.toNat, 0, 0]
def k0_cond3 (i : grid0.Coords) : BitVec 1 :=
  let arg2 : BitVec 32 := BitVec.ofNat 32 (i 2).val
  let c7_i32 : BitVec 32 := 7#32
  let v2037 : BitVec 1 := Scalar.cmpi .eq arg2 c7_i32
  let v2038 : BitVec 32 := Scalar.extui v2037
  let c0_i32_1098 : BitVec 32 := 0#32
  let v2039 : BitVec 1 := Scalar.cmpi .ne v2038 c0_i32_1098
  v2039

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S10x96x120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2x10x96x120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2x10x96x120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S10x2x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x96x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x96x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x96x120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x96x120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x96x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x96x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 1 → Memref sig .tc .vmem S2x10x96x120 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S2x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S120x10x96 : Shape := ⟨3, ![120, 10, 96]⟩
abbrev S2x65536x10x96 : Shape := ⟨4, ![2, 65536, 10, 96]⟩
abbrev S2x10 : Shape := ⟨2, ![2, 10]⟩
abbrev S2x120x10x96 : Shape := ⟨4, ![2, 120, 10, 96]⟩
abbrev S2x10x120 : Shape := ⟨3, ![2, 10, 120]⟩
abbrev S2x10x120x96 : Shape := ⟨4, ![2, 10, 120, 96]⟩
abbrev S20x120x96 : Shape := ⟨3, ![20, 120, 96]⟩
abbrev S20x120 : Shape := ⟨2, ![20, 120]⟩
abbrev S20x120x1 : Shape := ⟨3, ![20, 120, 1]⟩
abbrev S20x1 : Shape := ⟨2, ![20, 1]⟩
abbrev S20x1x1 : Shape := ⟨3, ![20, 1, 1]⟩
abbrev S2x10x65536x96 : Shape := ⟨4, ![2, 10, 65536, 96]⟩
abbrev S20x65536x96 : Shape := ⟨3, ![20, 65536, 96]⟩
abbrev S10x120x96 : Shape := ⟨3, ![10, 120, 96]⟩
abbrev S20x120x65536 : Shape := ⟨3, ![20, 120, 65536]⟩
abbrev S1x120x10x96 : Shape := ⟨4, ![1, 120, 10, 96]⟩

abbrev nBuf : Space → Nat
  | .hbm => 14
  | .vmem => 14
  | .smem => 0
  | _ => 0

abbrev bufTy : (tb : Table) → Fin (tcTables nBuf tb) → BufTy
  | .hbm, ⟨0, _⟩ => ⟨S120x10x96, .bf16⟩
  | .hbm, ⟨1, _⟩ => ⟨S2x65536x10x96, .fp8e4m3⟩
  | .hbm, ⟨2, _⟩ => ⟨S2x10, .f32⟩
  | .hbm, ⟨3, _⟩ => ⟨S2x65536x10x96, .fp8e4m3⟩
  | .hbm, ⟨4, _⟩ => ⟨S2x10, .f32⟩
  | .hbm, ⟨5, _⟩ => ⟨S2x120x10x96, .bf16⟩
  | .hbm, ⟨6, _⟩ => ⟨S2x10x120, .f32⟩
  | .hbm, ⟨7, _⟩ => ⟨S2x120x10x96, .bf16⟩
  | .hbm, ⟨8, _⟩ => ⟨S120x10x96, .bf16⟩
  | .hbm, ⟨9, _⟩ => ⟨S2x120x10x96, .f32⟩
  | .hbm, ⟨10, _⟩ => ⟨S2x65536x10x96, .bf16⟩
  | .hbm, ⟨11, _⟩ => ⟨S2x65536x10x96, .bf16⟩
  | .hbm, ⟨12, _⟩ => ⟨S2x120x10x96, .fp8e5m2⟩
  | .hbm, ⟨13, _⟩ => ⟨S2x10, .f32⟩
  | .local _ .vmem, ⟨0, _⟩ => ⟨S120x10x96, .bf16⟩
  | .local _ .vmem, ⟨1, _⟩ => ⟨S2x65536x10x96, .fp8e4m3⟩
  | .local _ .vmem, ⟨2, _⟩ => ⟨S2x10, .f32⟩
  | .local _ .vmem, ⟨3, _⟩ => ⟨S2x65536x10x96, .fp8e4m3⟩
  | .local _ .vmem, ⟨4, _⟩ => ⟨S2x10, .f32⟩
  | .local _ .vmem, ⟨5, _⟩ => ⟨S2x120x10x96, .bf16⟩
  | .local _ .vmem, ⟨6, _⟩ => ⟨S2x10x120, .f32⟩
  | .local _ .vmem, ⟨7, _⟩ => ⟨S2x120x10x96, .bf16⟩
  | .local _ .vmem, ⟨8, _⟩ => ⟨S120x10x96, .bf16⟩
  | .local _ .vmem, ⟨9, _⟩ => ⟨S2x120x10x96, .f32⟩
  | .local _ .vmem, ⟨10, _⟩ => ⟨S2x65536x10x96, .bf16⟩
  | .local _ .vmem, ⟨11, _⟩ => ⟨S2x65536x10x96, .bf16⟩
  | .local _ .vmem, ⟨12, _⟩ => ⟨S2x120x10x96, .fp8e5m2⟩
  | .local _ .vmem, ⟨13, _⟩ => ⟨S2x10, .f32⟩
  | _, _ => ⟨S120x10x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S120x10x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x65536x10x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x65536x10x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x120x10x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x10x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x120x10x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S120x10x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x120x10x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x65536x10x96 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x65536x10x96 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x120x10x96 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelPoints.lean ====
/- The grid points of the kernel: when each branch of the body is taken, and the names of the staging
   and scratch buffers the body runs on. -/
module

public import proofs.«01_k».proof.Proof.Gen.Kernel.Skeleton
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the host lines after the region write. -/
def T0 : Finset (Ref sig .tc) := {main_v10, main_v11, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The body's branch conditions -/

/-- The condition of the body's `scf.if` 0 from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 160 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, k0_cond1, e0, e1, e2]
    word_cmp
   : ∀ t : Fin grid0.N, cond0_0 (grid0.coords t) ↔ t.val % 160 = 0)

/-- The condition of the body's `scf.if` 1 from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_1, e0, e1, e2]
    word_cmp
   : ∀ t : Fin grid0.N, cond0_1 (grid0.coords t) ↔ t.val % 8 = 0)

/-- The condition of the body's `scf.if` 2 from the grid coordinates. -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_2, k0_cond3, e0, e1, e2]
    word_cmp
   : ∀ t : Fin grid0.N, cond0_2 (grid0.coords t) ↔ t.val % 8 = 7)

/-! ## No input window is ever idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-! ## The staging and scratch buffers -/
abbrev ms0_0 (t : Fin cfg0.N) : Memref sig .tc .smem S2x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x96x120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x10x96x120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x10x96x120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x2x120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x96x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x96x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x96x120 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x96x120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x96x8192 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x96x8192 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x10x96x120 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x10 .f32 := win0_13.stage (cfg0.slots t 13)
abbrev hs0_13 (t : Fin cfg0.N) : (ms0_13 t).IsWhole := hstage0_13 ((cfg0.slots t 13).cast nbuf0_13)
abbrev scM0_0 : Memref sig .tc .vmem S10x120x96 .bf16 := Memref.whole cc0_scratch0
abbrev scM0_1 : Memref sig .tc .vmem S20x128x96 .fp8e5m2 := Memref.whole cc0_scratch1
abbrev scM0_2 : Memref sig .tc .vmem S20x192x240 .bf16 := Memref.whole cc0_scratch2
abbrev scM0_3 : Memref sig .tc .vmem S20x120x128 .f32 := Memref.whole cc0_scratch3
abbrev scM0_4 : Memref sig .tc .vmem S20x120x128 .f32 := Memref.whole cc0_scratch4
abbrev scM0_5 : Memref sig .tc .vmem S20x8x128 .f32 := Memref.whole cc0_scratch5
abbrev scM0_6 : Memref sig .tc .vmem S20x8x128 .f32 := Memref.whole cc0_scratch6
abbrev scM0_7 : Memref sig .tc .vmem S96x128 .f32 := Memref.whole cc0_scratch7
abbrev scM0_8 : Memref sig .tc .vmem S96x120 .f32 := Memref.whole cc0_scratch8

/-- The launch's invariant: every scratch buffer at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel.Gen

end
-- ==== Proof.KernelFrame.lean ====
/- The frame of the kernel at any float instance: it runs, and leaves its arguments as they were.
   Nothing is said here of what the outputs or the scratch buffers hold. -/
module

public import proofs.«01_k».proof.Proof.KernelPoints
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, with every output and scratch buffer at some contents -/

set_option maxHeartbeats 6800000 in
/-- The body at the first point, where the heads are prepared: it runs, and gives every buffer back. -/
theorem body_first (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : cond0_0 i) (hc1 : cond0_1 i) (hc2 : ¬ cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_latent_attention_backward_eq_skeleton]; unfold cc0_latent_attention_backward_skel
  simp only [k0_part115_eq_skeleton, k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  · sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

set_option maxHeartbeats 12000000 in
/-- The body at any other point: it runs, and gives every buffer back. -/
theorem body_later (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : ¬ cond0_0 i) (hc : cond0_1 i ∧ ¬ cond0_2 i ∨ ¬ cond0_1 i ∧ ¬ cond0_2 i ∨ ¬ cond0_1 i ∧ cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_latent_attention_backward_eq_skeleton]; unfold cc0_latent_attention_backward_skel
  simp only [k0_part115_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  rcases hc with ⟨hc1, hc2⟩ | ⟨hc1, hc2⟩ | ⟨hc1, hc2⟩
  all_goals
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

/-! ## The proof data: inputs at their blocks, outputs forgotten -/

/-- The outputs: nothing is said of what the kernel leaves in them. -/
def forgets0 : Fin 14 → Bool := fun w => w.val == 8 || w.val == 9 || w.val == 10 || w.val == 11 || w.val == 12 || w.val == 13

/-- The arrays as the region finds them; each input's buffer at its block; the outputs forgotten; the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 32000000 in
/-- The body at any point: the first point or a later one, by the two triples above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  have hN : t.val < 160 := lt_of_lt_of_eq t.isLt (show cfg0.N = 160 from N_0)
  iintro ⟨⟨⟨H14, H15, H16, H17, H18, H19, H20, H21, H22⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases h0 : t.val % 160 = 0
  · iapply (body_first c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr (by omega)) (fun h => by have := (hcond0_2 t).mp h; omega) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H0, H1, H2, H3, H4, H5, H6, H7, H8, H9, H10, H11, H12, H13, H14, H15, H16, H17, H18, H19, H20, H21, H22⟩
    isplitl [H14 H15 H16 H17 H18 H19 H20 H21 H22 Hg]
    · isplitl [H14 H15 H16 H17 H18 H19 H20 H21 H22]
      · isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iapply (body_later c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (by
      rw [hcond0_1 t, hcond0_2 t]; omega) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H0, H1, H2, H3, H4, H5, H6, H7, H8, H9, H10, H11, H12, H13, H14, H15, H16, H17, H18, H19, H20, H21, H22⟩
    isplitl [H14 H15 H16 H17 H18 H19 H20 H21 H22 Hg]
    · isplitl [H14 H15 H16 H17 H18 H19 H20 H21 H22]
      · isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body obligation of the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every run ends, the input arrays and every buffer the host lines after the region do not write are as
    the region found them, and every semaphore counter is zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    (Pipeline.RDat.FramePostR.arr_in h.1 c 0 rfl).trans ((A_eq m c 0).trans (V_main_arg2 m c)),
    ((h.1 c).2 main_arg3 (Finset.mem_sdiff.mpr ⟨Pipeline.mem_restRefs_of main_arg3 (by decide) (by decide), by decide⟩)).trans (V_main_arg3 m c),
    (Pipeline.RDat.FramePostR.arr_in h.1 c 1 rfl).trans ((A_eq m c 1).trans (V_main_arg4 m c)),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩, h.2⟩) (run_main_quiescent m ρ)

end Cert.Kernel.Gen

end
-- ==== Proof.KernelIdealPoints.lean ====
/- The grid points of the kernel: when each branch of the body is taken, and the names of the staging
   and scratch buffers the body runs on. -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers the host lines after the region write. -/
def T0 : Finset (Ref sig .tc) := {main_v10, main_v11, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The body's branch conditions -/

/-- The condition of the body's `scf.if` 0 from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 160 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, k0_cond1, e0, e1, e2]
    word_cmp
   : ∀ t : Fin grid0.N, cond0_0 (grid0.coords t) ↔ t.val % 160 = 0)

/-- The condition of the body's `scf.if` 1 from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_1, e0, e1, e2]
    word_cmp
   : ∀ t : Fin grid0.N, cond0_1 (grid0.coords t) ↔ t.val % 8 = 0)

/-- The condition of the body's `scf.if` 2 from the grid coordinates. -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_2, k0_cond3, e0, e1, e2]
    word_cmp
   : ∀ t : Fin grid0.N, cond0_2 (grid0.coords t) ↔ t.val % 8 = 7)

/-! ## No input window is ever idle -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-! ## The staging and scratch buffers -/
abbrev ms0_0 (t : Fin cfg0.N) : Memref sig .tc .smem S2x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x96x120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x10x96x120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x10x96x120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10x2x120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x96x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x96x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x96x120 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x96x120 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x96x8192 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x96x8192 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x10x96x120 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x10 .f32 := win0_13.stage (cfg0.slots t 13)
abbrev hs0_13 (t : Fin cfg0.N) : (ms0_13 t).IsWhole := hstage0_13 ((cfg0.slots t 13).cast nbuf0_13)
abbrev scM0_0 : Memref sig .tc .vmem S10x120x96 .bf16 := Memref.whole cc0_scratch0
abbrev scM0_1 : Memref sig .tc .vmem S20x128x96 .fp8e5m2 := Memref.whole cc0_scratch1
abbrev scM0_2 : Memref sig .tc .vmem S20x192x240 .bf16 := Memref.whole cc0_scratch2
abbrev scM0_3 : Memref sig .tc .vmem S20x120x128 .f32 := Memref.whole cc0_scratch3
abbrev scM0_4 : Memref sig .tc .vmem S20x120x128 .f32 := Memref.whole cc0_scratch4
abbrev scM0_5 : Memref sig .tc .vmem S20x8x128 .f32 := Memref.whole cc0_scratch5
abbrev scM0_6 : Memref sig .tc .vmem S20x8x128 .f32 := Memref.whole cc0_scratch6
abbrev scM0_7 : Memref sig .tc .vmem S96x128 .f32 := Memref.whole cc0_scratch7
abbrev scM0_8 : Memref sig .tc .vmem S96x120 .f32 := Memref.whole cc0_scratch8

/-- The launch's invariant: every scratch buffer at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Gen

end
-- ==== Proof.KernelIdealChunk.lean ====
/- What one grid point of the kernel computes, as a function of what it reads: the 32 chunks of 256 keys of the
   block, the two output blocks they fill, and the running sum for the query gradient. -/
module

public import proofs.«01_k».proof.Proof.KernelIdealPoints
public import Idealize.ShloMosaic.Lib.Tactic
public import Idealize.ShloMosaic.Lib.Writes
public import Idealize.ShloMosaic.Lib.WholeRead
public import Idealize.ShloMosaic.Lib.VecWindow
public import Idealize.ShloMosaic.Lib.ValueIdxCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

/-- What a grid point reads: the key scale, the 32 chunks of keys and of values, the prepared rows of its head and
    batch (query codes, incoming-gradient codes, their stacked block, the row maxima, the row offsets, the two scales), and the
    running sum it starts from. -/
structure Tile (F : FTy → Type) where
  ks : F .f32
  kb : Fin 32 → Vec F S1x1x96x256 .fp8e4m3
  vb : Fin 32 → Vec F S1x1x96x256 .fp8e4m3
  q : Vec F S1x120x96 .bf16
  dl : Vec F S1x128x96 .fp8e5m2
  g : Vec F S1x192x240 .bf16
  lse : Vec F S1x120x128 .f32
  dlt : Vec F S1x120x128 .f32
  dps : Vec F S1x8x128 .f32
  dos : Vec F S1x8x128 .f32
  acc : Vec F S96x128 .f32

namespace Tile

/-- The score gradients and the probabilities of chunk `k`, stacked. -/
def w (p : Tile F) (k : Fin 32) : FVec F S240x256 .bf16 :=
  k0_pay357 (k0_pay352 p.ks) (k0_pay354 (p.kb k) p.q) (k0_pay355 p.dl) (k0_pay356 (p.vb k))
    (constant S128x256 .f32 0x00000000#32) p.lse p.dlt p.dps

/-- The key gradient of chunk `k`. -/
def dk (p : Tile F) (k : Fin 32) : Vec F S1x1x96x256 .bf16 := k0_pay367 (p.w k) p.g

/-- The value gradient of chunk `k`. -/
def dv (p : Tile F) (k : Fin 32) : Vec F S1x1x96x256 .bf16 := k0_pay369 (k0_pay368 (p.w k) p.g p.dos)

/-- The running sum after the first `n` chunks. -/
def accN (p : Tile F) : (n : ℕ) → n ≤ 32 → FVec F S96x128 .f32
  | 0, _ => p.acc
  | n + 1, h => k0_pay370 (p.accN n (Nat.le_of_succ_le h)) (k0_pay353 (p.kb ⟨n, h⟩)) (p.w ⟨n, h⟩)

/-- The running sum as the point stores it back. -/
def accOut (p : Tile F) : Vec F S96x128 .f32 :=
  shapeCast S96x128 (p.accN 32 le_rfl) shapeCasts_S96x128_S96x128

end Tile

theorem inb_chunk (k : Fin 32) : ∀ a, (![0, 0, 0, 256 * k.val] : Fin 4 → ℕ) a + S1x1x96x256.size a ≤ S1x1x96x8192.size a := by
  have hk := k.isLt
  intro a
  fin_cases a
  · exact Nat.le_refl 1
  · exact Nat.le_refl 1
  · exact Nat.le_refl 96
  · show 256 * k.val + 256 ≤ 8192
    omega

/-- The rectangle of chunk `k` in a block of 8192 keys. -/
abbrev chunkRect (k : Fin 32) : Rect S1x1x96x8192 := Rect.unit (s := S1x1x96x8192) ![0, 0, 0, 256 * k.val] S1x1x96x256.size (inb_chunk k)

/-- The tile of the point `i`, from the whole arrays and scratch it reads. -/
def tileOf (i : grid0.Coords) (x0 : Vec F S2x10 .f32) (x6 x7 : Vec F S1x1x96x8192 .fp8e4m3)
    (x14 : Vec F S10x120x96 .bf16) (x15 : Vec F S20x128x96 .fp8e5m2) (x16 : Vec F S20x192x240 .bf16)
    (x17 x18 : Vec F S20x120x128 .f32) (x19 x20 : Vec F S20x8x128 .f32) (a : Vec F S96x128 .f32) : Tile F where
  ks := x0 ((Rect.unit (s := S2x10) (k0_off1 i) S1x1.size (k0_off1_inb i)).toLoadRect.idx (Shape.Idx.first (s := S1x1) (lt_of_lt_of_eq Nat.one_pos numel1_S1x1.symm)))
  kb k := fun j => x6 ((chunkRect k).toLoadRect.idx j)
  vb k := fun j => x7 ((chunkRect k).toLoadRect.idx j)
  q := fun j => x14 ((Rect.unit (s := S10x120x96) (k0_off2 i) S1x120x96.size (k0_off2_inb i)).toLoadRect.idx j)
  dl := fun j => x15 ((Rect.unit (s := S20x128x96) (k0_off3 i) S1x128x96.size (k0_off3_inb i)).toLoadRect.idx j)
  g := fun j => x16 ((Rect.unit (s := S20x192x240) (k0_off6 i) S1x192x240.size (k0_off6_inb i)).toLoadRect.idx j)
  lse := fun j => x17 ((Rect.unit (s := S20x120x128) (k0_off4 i) S1x120x128.size (k0_off4_inb i)).toLoadRect.idx j)
  dlt := fun j => x18 ((Rect.unit (s := S20x120x128) (k0_off4 i) S1x120x128.size (k0_off4_inb i)).toLoadRect.idx j)
  dps := fun j => x19 ((Rect.unit (s := S20x8x128) (k0_off5 i) S1x8x128.size (k0_off5_inb i)).toLoadRect.idx j)
  dos := fun j => x20 ((Rect.unit (s := S20x8x128) (k0_off5 i) S1x8x128.size (k0_off5_inb i)).toLoadRect.idx j)
  acc := fun j => a ((Rect.unit (s := S96x128) ![0, 0] S96x128.size inb_S96x128_S96x128_0_0).toLoadRect.idx j)

/-- The 32 stores of a block's chunks, last first. -/
def pieces (v : Fin 32 → Vec F S1x1x96x256 .bf16) : List (View.Piece (Elt F) S1x1x96x8192 .bf16) :=
  (List.finRange 32).reverse.map fun k => ⟨chunkRect k, v k⟩

/-- The block those chunks make. -/
def blockOf (v : Fin 32 → Vec F S1x1x96x256 .bf16) : Vec F S1x1x96x8192 .bf16 := fun y =>
  v ⟨(y 3).val / 256, by have : (y 3).val < 8192 := (y 3).isLt; omega⟩
    (ix4 0 0 ⟨(y 2).val, (y 2).isLt⟩ ⟨(y 3).val % 256, Nat.mod_lt _ (by omega)⟩)

/-- After the 32 stores a buffer reads the block, whatever it held before. -/
theorem read_pieces {sg : RefSig} {κ : Kind} {sp : Space} (m : View sg κ sp S1x1x96x8192 .bf16) (f : m.ty.Contents (Elt F)) (v : Fin 32 → Vec F S1x1x96x256 .bf16) :
    m.read (Elt F) (m.writes (Elt F) f (pieces v)) = blockOf v := by
  funext y
  refine View.read_writes_apply_of_pieces m f (blockOf v) (pieces v) ?_ y ?_
  · intro p hp x
    obtain ⟨k, -, rfl⟩ := List.mem_map.mp hp
    have h3 : (((chunkRect k).emb x) 3).val = 256 * k.val + (x 3).val := by
      show 256 * k.val + 1 * (x 3).val = _
      omega
    have h2 : (((chunkRect k).emb x) 2).val = (x 2).val := by
      show 0 + 1 * (x 2).val = _
      omega
    have hx3 : (x 3).val < 256 := (x 3).isLt
    have hx0 : (x 0).val < 1 := (x 0).isLt
    have hx1 : (x 1).val < 1 := (x 1).isLt
    unfold blockOf
    have hk : (⟨(((chunkRect k).emb x) 3).val / 256, by rw [h3]; have := k.isLt; omega⟩ : Fin 32) = k := by
      apply Fin.ext; show (((chunkRect k).emb x) 3).val / 256 = k.val; rw [h3]; omega
    rw [hk]
    show v k x = v k _
    refine congrArg (v k) (funext fun a => ?_)
    match a with
    | ⟨0, _⟩ => exact Fin.ext (by show (x 0).val = 0; omega)
    | ⟨1, _⟩ => exact Fin.ext (by show (x 1).val = 0; omega)
    | ⟨2, _⟩ => exact Fin.ext (by show (x 2).val = _; exact h2.symm)
    | ⟨3, _⟩ => exact Fin.ext (by show (x 3).val = (((chunkRect k).emb x) 3).val % 256; rw [h3]; omega)
  · have hy : (y 3).val < 8192 := (y 3).isLt
    refine ⟨⟨chunkRect ⟨(y 3).val / 256, by omega⟩, v ⟨(y 3).val / 256, by omega⟩⟩, List.mem_map.mpr ⟨_, by simp, rfl⟩, ?_⟩
    refine (chunkRect ⟨(y 3).val / 256, by omega⟩).mem_set.mpr fun a => ?_
    match a with
    | ⟨0, _⟩ => exact ⟨0, Nat.one_pos, by have : (y 0).val < 1 := (y 0).isLt; show (y 0).val = 0 + 1 * 0; omega⟩
    | ⟨1, _⟩ => exact ⟨0, Nat.one_pos, by have : (y 1).val < 1 := (y 1).isLt; show (y 1).val = 0 + 1 * 0; omega⟩
    | ⟨2, _⟩ => exact ⟨(y 2).val, (y 2).isLt, by show (y 2).val = 0 + 1 * (y 2).val; omega⟩
    | ⟨3, _⟩ => exact ⟨(y 3).val % 256, Nat.mod_lt _ (by omega), by
        show (y 3).val = 256 * ((y 3).val / 256) + 1 * ((y 3).val % 256); omega⟩

end Cert.KernelIdeal.Gen

end
-- ==== Proof.KernelIdealPrep.lean ====
/- What the kernel prepares at its first grid point, as a function of the arrays it reads: for every head and batch the
   quantised incoming gradient, its scale, and the stacked blocks the later points use. -/
module

public import proofs.«01_k».proof.Proof.KernelIdealChunk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

/-! ## Rows written one after another -/

/-- The rectangle of row `k` of an `n × a × b` array. -/
abbrev rowRect (n a b : ℕ) (k : Fin n) : Rect (⟨3, ![n, a, b]⟩ : Shape) :=
  Rect.unit (s := ⟨3, ![n, a, b]⟩) ![k.val, 0, 0] (⟨3, ![1, a, b]⟩ : Shape).size (by
    have hk := k.isLt
    intro d
    match d with
    | ⟨0, _⟩ => show k.val + 1 ≤ n; omega
    | ⟨1, _⟩ => show 0 + a ≤ a; omega
    | ⟨2, _⟩ => show 0 + b ≤ b; omega)

/-- The stores of all rows, last first. -/
def rowPieces (n a b : ℕ) {e : EltTy} (v : Fin n → Vec F (⟨3, ![1, a, b]⟩ : Shape) e) :
    List (View.Piece (Elt F) (⟨3, ![n, a, b]⟩ : Shape) e) :=
  (List.finRange n).reverse.map fun k => ⟨rowRect n a b k, v k⟩

/-- The array those rows make. -/
def ofRows {n a b : ℕ} {e : EltTy} (v : Fin n → Vec F (⟨3, ![1, a, b]⟩ : Shape) e) : Vec F (⟨3, ![n, a, b]⟩ : Shape) e :=
  fun y => v (y 0) (ix3 0 (y 1) (y 2))

/-- After the stores a buffer reads the array, whatever it held before. -/
theorem read_rowPieces {sg : RefSig} {κ : Kind} {sp : Space} {n a b : ℕ} {e : EltTy} (m : View sg κ sp (⟨3, ![n, a, b]⟩ : Shape) e)
    (f : m.ty.Contents (Elt F)) (v : Fin n → Vec F (⟨3, ![1, a, b]⟩ : Shape) e) :
    m.read (Elt F) (m.writes (Elt F) f (rowPieces n a b v)) = ofRows v := by
  funext y
  refine View.read_writes_apply_of_pieces m f (ofRows v) (rowPieces n a b v) ?_ y ?_
  · intro p hp x
    obtain ⟨k, -, rfl⟩ := List.mem_map.mp hp
    have hx0 : (x 0).val < 1 := (x 0).isLt
    have hk : ((rowRect n a b k).emb x) 0 = k := Fin.ext (by show k.val + 1 * (x 0).val = k.val; omega)
    unfold ofRows
    rw [hk]
    show v k x = v k _
    refine congrArg (v k) (funext fun d => ?_)
    match d with
    | ⟨0, _⟩ => exact Fin.ext (by show (x 0).val = 0; omega)
    | ⟨1, _⟩ => exact Fin.ext (by show (x 1).val = 0 + 1 * (x 1).val; omega)
    | ⟨2, _⟩ => exact Fin.ext (by show (x 2).val = 0 + 1 * (x 2).val; omega)
  · refine ⟨⟨rowRect n a b (y 0), v (y 0)⟩, List.mem_map.mpr ⟨_, List.mem_reverse.mpr (List.mem_finRange _), rfl⟩, ?_⟩
    refine (rowRect n a b (y 0)).mem_set.mpr fun d => ?_
    match d with
    | ⟨0, _⟩ => exact ⟨0, Nat.one_pos, by show (y 0).val = (y 0).val + 1 * 0; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩

/-- The head of row `i = 2 h + b`, and its batch. -/
abbrev hd (i : Fin 20) : Fin 10 := ⟨i.val / 2, by omega⟩
abbrev bt (i : Fin 20) : Fin 2 := ⟨i.val % 2, by omega⟩

/-- The rectangle of batch `b`, head `h` in a `2 × 10 × 96 × 120` array. -/
abbrev headRect (b : Fin 2) (h : Fin 10) : Rect S2x10x96x120 :=
  Rect.unit (s := S2x10x96x120) ![b.val, h.val, 0, 0] S1x1x96x120.size (by
    have hb := b.isLt; have hh := h.isLt
    intro d
    match d with
    | ⟨0, _⟩ => show b.val + 1 ≤ 2; omega
    | ⟨1, _⟩ => show h.val + 1 ≤ 10; omega
    | ⟨2, _⟩ => exact Nat.le_refl 96
    | ⟨3, _⟩ => exact Nat.le_refl 120)

/-- The stores of the 20 blocks, head by head, last first. -/
def headPieces {e : EltTy} (v : Fin 20 → Vec F S1x1x96x120 e) : List (View.Piece (Elt F) S2x10x96x120 e) :=
  (List.finRange 20).reverse.map fun i => ⟨headRect (bt i) (hd i), v i⟩

/-- The array those blocks make. -/
def ofHeads {e : EltTy} (v : Fin 20 → Vec F S1x1x96x120 e) : Vec F S2x10x96x120 e :=
  fun y => v ⟨2 * (y 1).val + (y 0).val, by have h0 : (y 0).val < 2 := (y 0).isLt; have h1 : (y 1).val < 10 := (y 1).isLt; omega⟩
    (ix4 0 0 ⟨(y 2).val, (y 2).isLt⟩ ⟨(y 3).val, (y 3).isLt⟩)

/-- After the stores a buffer reads the array, whatever it held before. -/
theorem read_headPieces {sg : RefSig} {κ : Kind} {sp : Space} {e : EltTy} (m : View sg κ sp S2x10x96x120 e)
    (f : m.ty.Contents (Elt F)) (v : Fin 20 → Vec F S1x1x96x120 e) :
    m.read (Elt F) (m.writes (Elt F) f (headPieces v)) = ofHeads v := by
  funext y
  refine View.read_writes_apply_of_pieces m f (ofHeads v) (headPieces v) ?_ y ?_
  · intro p hp x
    obtain ⟨k, -, rfl⟩ := List.mem_map.mp hp
    have hx0 : (x 0).val < 1 := (x 0).isLt
    have hx1 : (x 1).val < 1 := (x 1).isLt
    have h0 : (((headRect (bt k) (hd k)).emb x) 0).val = k.val % 2 := by show k.val % 2 + 1 * (x 0).val = _; omega
    have h1 : (((headRect (bt k) (hd k)).emb x) 1).val = k.val / 2 := by show k.val / 2 + 1 * (x 1).val = _; omega
    unfold ofHeads
    have hk : (⟨2 * (((headRect (bt k) (hd k)).emb x) 1).val + (((headRect (bt k) (hd k)).emb x) 0).val, by rw [h0, h1]; have := k.isLt; omega⟩ : Fin 20) = k := by
      apply Fin.ext; show 2 * (((headRect (bt k) (hd k)).emb x) 1).val + (((headRect (bt k) (hd k)).emb x) 0).val = k.val; rw [h0, h1]; omega
    rw [hk]
    show v k x = v k _
    refine congrArg (v k) (funext fun d => ?_)
    match d with
    | ⟨0, _⟩ => exact Fin.ext (by show (x 0).val = 0; omega)
    | ⟨1, _⟩ => exact Fin.ext (by show (x 1).val = 0; omega)
    | ⟨2, _⟩ => exact Fin.ext (by show (x 2).val = 0 + 1 * (x 2).val; omega)
    | ⟨3, _⟩ => exact Fin.ext (by show (x 3).val = 0 + 1 * (x 3).val; omega)
  · have hy0 : (y 0).val < 2 := (y 0).isLt
    have hy1 : (y 1).val < 10 := (y 1).isLt
    refine ⟨⟨headRect (bt ⟨2 * (y 1).val + (y 0).val, by omega⟩) (hd ⟨2 * (y 1).val + (y 0).val, by omega⟩), v ⟨2 * (y 1).val + (y 0).val, by omega⟩⟩, List.mem_map.mpr ⟨_, List.mem_reverse.mpr (List.mem_finRange _), rfl⟩, ?_⟩
    refine (headRect (bt ⟨2 * (y 1).val + (y 0).val, by omega⟩) (hd ⟨2 * (y 1).val + (y 0).val, by omega⟩)).mem_set.mpr fun d => ?_
    match d with
    | ⟨0, _⟩ => exact ⟨0, Nat.one_pos, by show (y 0).val = (2 * (y 1).val + (y 0).val) % 2 + 1 * 0; omega⟩
    | ⟨1, _⟩ => exact ⟨0, Nat.one_pos, by show (y 1).val = (2 * (y 1).val + (y 0).val) / 2 + 1 * 0; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩

/-! ## One head and batch -/

/-- The power-of-two scale of one block of the incoming gradient. -/
def headScale (d : Vec F S1x1x96x120 .bf16) : FVec F S1x1 .f32 := k0_pay9 (k0_pay6 d) (k0_pay7 d) 126#32

/-- One block of queries, of the incoming gradient or of the forward output, and one row of the log-sum-exp. -/
def qAt (x : Vec F S10x96x120 .bf16) (h : Fin 10) : Vec F S1x96x120 .bf16 := fun j => x ((rowRect 10 96 120 h).toLoadRect.idx j)
def dAt (x : Vec F S2x10x96x120 .bf16) (i : Fin 20) : Vec F S1x1x96x120 .bf16 := fun j => x ((headRect (bt i) (hd i)).toLoadRect.idx j)
def lAt (x : Vec F S10x2x120 .f32) (i : Fin 20) : Vec F S1x1x120 .f32 := fun j =>
  x ((Rect.unit (s := S10x2x120) ![i.val / 2, i.val % 2, 0] S1x1x120.size (by
    have hi := i.isLt
    intro d
    match d with
    | ⟨0, _⟩ => show i.val / 2 + 1 ≤ 10; omega
    | ⟨1, _⟩ => show i.val % 2 + 1 ≤ 2; omega
    | ⟨2, _⟩ => exact Nat.le_refl 120)).toLoadRect.idx j)
/-- One entry of a table of scales. -/
def sAt (x : Vec F S2x10 .f32) (i : Fin 20) : F .f32 :=
  x ((Rect.unit (s := S2x10) ![i.val % 2, i.val / 2] S1x1.size (by
    have hi := i.isLt
    intro d
    match d with
    | ⟨0, _⟩ => show i.val % 2 + 1 ≤ 2; omega
    | ⟨1, _⟩ => show i.val / 2 + 1 ≤ 10; omega)).toLoadRect.idx (Shape.Idx.first (s := S1x1) (lt_of_lt_of_eq Nat.one_pos numel1_S1x1.symm)))

/-! ## The rows of the prepared arrays -/

def qRow (x2 : Vec F S10x96x120 .bf16) (h : Fin 10) : Vec F S1x120x96 .bf16 := k0_pay4 (qAt x2 h)
def codesRow (x3 : Vec F S2x10x96x120 .bf16) (i : Fin 20) : Vec F S1x1x96x120 .fp8e5m2 :=
  k0_pay11 (k0_pay5 (dAt x3 i)) (k0_pay6 (dAt x3 i)) (k0_pay7 (dAt x3 i)) 126#32
def dlRow (x3 : Vec F S2x10x96x120 .bf16) (i : Fin 20) : Vec F S1x128x96 .fp8e5m2 :=
  k0_pay13 (k0_pay5 (dAt x3 i)) (k0_pay6 (dAt x3 i)) (k0_pay7 (dAt x3 i)) 126#32
def gRow (x2 : Vec F S10x96x120 .bf16) (x3 : Vec F S2x10x96x120 .bf16) (i : Fin 20) : Vec F S1x192x240 .bf16 :=
  k0_pay14 k0_pay2 (k0_pay3 (qAt x2 (hd i))) (k0_pay5 (dAt x3 i)) (k0_pay6 (dAt x3 i)) (k0_pay7 (dAt x3 i)) 126#32
def dltRow (x3 x4 : Vec F S2x10x96x120 .bf16) (i : Fin 20) : Vec F S1x120x128 .f32 :=
  k0_pay15 (headScale (dAt x3 i)) (k0_pay12 (k0_pay5 (dAt x3 i)) (k0_pay6 (dAt x3 i)) (k0_pay7 (dAt x3 i)) 126#32) (dAt x4 i)
def lseRow (x5 : Vec F S10x2x120 .f32) (i : Fin 20) : Vec F S1x120x128 .f32 := k0_pay16 (lAt x5 i)
def dosRow (x3 : Vec F S2x10x96x120 .bf16) (i : Fin 20) : Vec F S1x8x128 .f32 := k0_pay18 (headScale (dAt x3 i))
def dpsRow (x3 : Vec F S2x10x96x120 .bf16) (x1 : Vec F S2x10 .f32) (i : Fin 20) : Vec F S1x8x128 .f32 :=
  k0_pay20 (k0_pay19 (headScale (dAt x3 i)) (sAt x1 i))

/-- The table of scales after the first `n` rows. -/
def scalesN (x3 : Vec F S2x10x96x120 .bf16) : (n : ℕ) → n ≤ 20 → FVec F S2x10 .f32
  | 0, _ => k0_pay1
  | n + 1, h => select
      (andi (cmpi .eq (iota .tc S2x10 32 [0] iota_S2x10_d0_w32) (broadcast S2x10 (BitVec.ofNat 32 (n % 2))))
        (cmpi .eq (iota .tc S2x10 32 [1] iota_S2x10_d1_w32) (broadcast S2x10 (BitVec.ofNat 32 (n / 2)))))
      (broadcastTo S2x10 (shapeCast S1x1 (headScale (dAt x3 ⟨n, h⟩)) shapeCasts_S1x1_S1x1) broadcasts_S1x1_S2x10)
      (scalesN x3 n (Nat.le_of_succ_le h))

/-! ## The prepared arrays -/

def prepQ (x2 : Vec F S10x96x120 .bf16) : Vec F S10x120x96 .bf16 := ofRows (qRow x2)
def prepCodes (x3 : Vec F S2x10x96x120 .bf16) : Vec F S2x10x96x120 .fp8e5m2 := ofHeads (codesRow x3)
def prepScales (x3 : Vec F S2x10x96x120 .bf16) : Vec F S2x10 .f32 := scalesN x3 20 le_rfl
def prepDl (x3 : Vec F S2x10x96x120 .bf16) : Vec F S20x128x96 .fp8e5m2 := ofRows (dlRow x3)
def prepG (x2 : Vec F S10x96x120 .bf16) (x3 : Vec F S2x10x96x120 .bf16) : Vec F S20x192x240 .bf16 := ofRows (gRow x2 x3)
def prepLse (x5 : Vec F S10x2x120 .f32) : Vec F S20x120x128 .f32 := ofRows (lseRow x5)
def prepDlt (x3 x4 : Vec F S2x10x96x120 .bf16) : Vec F S20x120x128 .f32 := ofRows (dltRow x3 x4)
def prepDps (x3 : Vec F S2x10x96x120 .bf16) (x1 : Vec F S2x10 .f32) : Vec F S20x8x128 .f32 := ofRows (dpsRow x3 x1)
def prepDos (x3 : Vec F S2x10x96x120 .bf16) : Vec F S20x8x128 .f32 := ofRows (dosRow x3)

/-! ## The query gradient of the last block of a head and batch -/

/-- The query gradient a point writes, from the stored running sum; the sum over batches, from what the batch before
    left; and the rounded sum. -/
def dqsOf (ks : F .f32) (A : Vec F S96x128 .f32) : Vec F S1x1x96x120 .f32 :=
  k0_pay641 ks (fun j => A ((Rect.unit (s := S96x128) ![0, 0] S96x120.size inb_S96x128_S96x120_0_0).toLoadRect.idx j))
def sumOf (b : BitVec 32) (ks : F .f32) (A : Vec F S96x128 .f32) (y : Vec F S96x120 .f32) : Vec F S96x120 .f32 :=
  k0_pay642 b ks (fun j => A ((Rect.unit (s := S96x128) ![0, 0] S96x120.size inb_S96x128_S96x120_0_0).toLoadRect.idx j))
    (fun j => y ((Rect.unit (s := S96x120) ![0, 0] S96x120.size inb_S96x120_S96x120_0_0).toLoadRect.idx j))
def dqOf (s : Vec F S96x120 .f32) : Vec F S1x96x120 .bf16 :=
  k0_pay643 (fun j => s ((Rect.unit (s := S96x120) ![0, 0] S96x120.size inb_S96x120_S96x120_0_0).toLoadRect.idx j))

/-- The same of the point's own running sum. -/
def Tile.dqs (p : Tile F) : Vec F S1x1x96x120 .f32 := dqsOf p.ks p.accOut
def Tile.sum (p : Tile F) (b : BitVec 32) (y : Vec F S96x120 .f32) : Vec F S96x120 .f32 := sumOf b p.ks p.accOut y
def Tile.dq (p : Tile F) (b : BitVec 32) (y : Vec F S96x120 .f32) : Vec F S1x96x120 .bf16 := dqOf (p.sum b y)

end Cert.KernelIdeal.Gen

end
-- ==== Proof.KernelIdealRunC.lean ====
/- The body at a point that neither starts nor ends a head and batch: the two output blocks and the running sum. -/
module

public import proofs.«01_k».proof.Proof.KernelIdealPrep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 12000000 in
/-- The body at a point that neither starts nor ends a head and batch: the two output blocks and the running sum. -/
theorem run_C (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : ¬ cond0_0 i) (hc1 : ¬ cond0_1 i) (hc2 : ¬ cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3) (x8 : Vec F S1x96x120 .bf16) (x9 : Vec F S1x1x96x120 .f32) (x10 : Vec F S1x1x96x8192 .bf16) (x11 : Vec F S1x1x96x8192 .bf16) (x12 : Vec F S2x10x96x120 .fp8e5m2) (x13 : Vec F S2x10 .f32) (x14 : Vec F S10x120x96 .bf16) (x15 : Vec F S20x128x96 .fp8e5m2) (x16 : Vec F S20x192x240 .bf16) (x17 : Vec F S20x120x128 .f32) (x18 : Vec F S20x120x128 .f32) (x19 : Vec F S20x8x128 .f32) (x20 : Vec F S20x8x128 .f32) (x21 : Vec F S96x128 .f32) (x22 : Vec F S96x120 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (blockOf (tileOf i x0 x6 x7 x14 x15 x16 x17 x18 x19 x20 x21).dk) ∗ owns (c : Thread nD τ) arg14 fullShare (blockOf (tileOf i x0 x6 x7 x14 x15 x16 x17 x18 x19 x20 x21).dv) ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare (tileOf i x0 x6 x7 x14 x15 x16 x17 x18 x19 x20 x21).accOut ∗ owns (c : Thread nD τ) arg25 fullShare x22) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have hT : (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))) = (tileOf i x0 x6 x7 x14 x15 x16 x17 x18 x19 x20 x21) := by rw [harg3.read_unread, harg9.read_unread, harg10.read_unread, harg17.read_unread, harg18.read_unread, harg19.read_unread, harg20.read_unread, harg21.read_unread, harg22.read_unread, harg23.read_unread, harg24.read_unread]
  simp only [cc0_latent_attention_backward_eq_skeleton]; unfold cc0_latent_attention_backward_skel
  simp only [k0_part115_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro
    refine Eq.trans (b := View.read (Elt F) arg13.view (arg13.view.writes (Elt F) (harg13.unread x10) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).dk))) ?_ ((read_pieces _ _ _).trans (congrArg (fun p : Tile F => blockOf p.dk) hT))
    sl_kernel_rfl
  isplitl [H11]
  · iexists _; isplitr; swap; · iexact H11
    ipureintro
    refine Eq.trans (b := View.read (Elt F) arg14.view (arg14.view.writes (Elt F) (harg14.unread x11) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).dv))) ?_ ((read_pieces _ _ _).trans (congrArg (fun p : Tile F => blockOf p.dv) hT))
    sl_kernel_rfl
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; swap; · iexact H21
    ipureintro
    refine Eq.trans (b := View.read (Elt F) arg24.view (arg24.view.writes (Elt F) (harg24.unread x21) (⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩ :: []))) ?_ ((View.read_writes_full _ _ _ _ _).trans (congrArg (fun p : Tile F => p.accOut) hT))
    sl_kernel_rfl
  · iexists _; isplitr; · ipureintro; exact harg25.read_unread _
    iexact H22

end Cert.KernelIdeal.Gen

end
-- ==== Proof.KernelIdealRunA.lean ====
/- The body at the first point: it also prepares every head. -/
module

public import proofs.«01_k».proof.Proof.KernelIdealRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 12000000 in
/-- The body at the first point: it also prepares every head. -/
theorem run_A (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : cond0_0 i) (hc1 : cond0_1 i) (hc2 : ¬ cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3) (x8 : Vec F S1x96x120 .bf16) (x9 : Vec F S1x1x96x120 .f32) (x10 : Vec F S1x1x96x8192 .bf16) (x11 : Vec F S1x1x96x8192 .bf16) (x12 : Vec F S2x10x96x120 .fp8e5m2) (x13 : Vec F S2x10 .f32) (x14 : Vec F S10x120x96 .bf16) (x15 : Vec F S20x128x96 .fp8e5m2) (x16 : Vec F S20x192x240 .bf16) (x17 : Vec F S20x120x128 .f32) (x18 : Vec F S20x120x128 .f32) (x19 : Vec F S20x8x128 .f32) (x20 : Vec F S20x8x128 .f32) (x21 : Vec F S96x128 .f32) (x22 : Vec F S96x120 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (blockOf (tileOf i x0 x6 x7 (prepQ x2) (prepDl x3) (prepG x2 x3) (prepLse x5) (prepDlt x3 x4) (prepDps x3 x1) (prepDos x3) k0_pay351).dk) ∗ owns (c : Thread nD τ) arg14 fullShare (blockOf (tileOf i x0 x6 x7 (prepQ x2) (prepDl x3) (prepG x2 x3) (prepLse x5) (prepDlt x3 x4) (prepDps x3 x1) (prepDos x3) k0_pay351).dv) ∗ owns (c : Thread nD τ) arg15 fullShare (prepCodes x3) ∗ owns (c : Thread nD τ) arg16 fullShare (prepScales x3) ∗ owns (c : Thread nD τ) arg17 fullShare (prepQ x2) ∗ owns (c : Thread nD τ) arg18 fullShare (prepDl x3) ∗ owns (c : Thread nD τ) arg19 fullShare (prepG x2 x3) ∗ owns (c : Thread nD τ) arg20 fullShare (prepLse x5) ∗ owns (c : Thread nD τ) arg21 fullShare (prepDlt x3 x4) ∗ owns (c : Thread nD τ) arg22 fullShare (prepDps x3 x1) ∗ owns (c : Thread nD τ) arg23 fullShare (prepDos x3) ∗ owns (c : Thread nD τ) arg24 fullShare (tileOf i x0 x6 x7 (prepQ x2) (prepDl x3) (prepG x2 x3) (prepLse x5) (prepDlt x3 x4) (prepDps x3 x1) (prepDos x3) k0_pay351).accOut ∗ owns (c : Thread nD τ) arg25 fullShare x22) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have h14 : (View.read (Elt F) arg17.view (arg17.view.writes (Elt F) arg17.view.junk (rowPieces 10 120 96 (qRow (View.read (Elt F) arg5.view (harg5.unread x2)))))) = (prepQ x2) := (read_rowPieces _ _ _).trans (by rw [harg5.read_unread] <;> rfl)
  have h15 : (View.read (Elt F) arg18.view (arg18.view.writes (Elt F) arg18.view.junk (rowPieces 20 128 96 (dlRow (View.read (Elt F) arg6.view (harg6.unread x3)))))) = (prepDl x3) := (read_rowPieces _ _ _).trans (by rw [harg6.read_unread] <;> rfl)
  have h16 : (View.read (Elt F) arg19.view (arg19.view.writes (Elt F) arg19.view.junk (rowPieces 20 192 240 (gRow (View.read (Elt F) arg5.view (harg5.unread x2)) (View.read (Elt F) arg6.view (harg6.unread x3)))))) = (prepG x2 x3) := (read_rowPieces _ _ _).trans (by rw [harg5.read_unread, harg6.read_unread] <;> rfl)
  have h17 : (View.read (Elt F) arg20.view (arg20.view.writes (Elt F) arg20.view.junk (rowPieces 20 120 128 (lseRow (View.read (Elt F) arg8.view (harg8.unread x5)))))) = (prepLse x5) := (read_rowPieces _ _ _).trans (by rw [harg8.read_unread] <;> rfl)
  have h18 : (View.read (Elt F) arg21.view (arg21.view.writes (Elt F) arg21.view.junk (rowPieces 20 120 128 (dltRow (View.read (Elt F) arg6.view (harg6.unread x3)) (View.read (Elt F) arg7.view (harg7.unread x4)))))) = (prepDlt x3 x4) := (read_rowPieces _ _ _).trans (by rw [harg6.read_unread, harg7.read_unread] <;> rfl)
  have h19 : (View.read (Elt F) arg22.view (arg22.view.writes (Elt F) arg22.view.junk (rowPieces 20 8 128 (dpsRow (View.read (Elt F) arg6.view (harg6.unread x3)) (View.read (Elt F) arg4.view (harg4.unread x1)))))) = (prepDps x3 x1) := (read_rowPieces _ _ _).trans (by rw [harg6.read_unread, harg4.read_unread] <;> rfl)
  have h20 : (View.read (Elt F) arg23.view (arg23.view.writes (Elt F) arg23.view.junk (rowPieces 20 8 128 (dosRow (View.read (Elt F) arg6.view (harg6.unread x3)))))) = (prepDos x3) := (read_rowPieces _ _ _).trans (by rw [harg6.read_unread] <;> rfl)
  have h21 : (View.read (Elt F) arg24.view (arg24.view.writes (Elt F) arg24.view.junk [⟨Rect.unit (s := S96x128) ![0, 0] S96x128.size inb_S96x128_S96x128_0_0, k0_pay351⟩])) = (k0_pay351 : FVec F S96x128 .f32) := View.read_writes_full _ _ _ _ _
  have hT : (tileOf i (View.read (Elt F) arg3.view (harg3.unread x0)) (View.read (Elt F) arg9.view (harg9.unread x6)) (View.read (Elt F) arg10.view (harg10.unread x7)) (View.read (Elt F) arg17.view (arg17.view.writes (Elt F) arg17.view.junk (rowPieces 10 120 96 (qRow (View.read (Elt F) arg5.view (harg5.unread x2)))))) (View.read (Elt F) arg18.view (arg18.view.writes (Elt F) arg18.view.junk (rowPieces 20 128 96 (dlRow (View.read (Elt F) arg6.view (harg6.unread x3)))))) (View.read (Elt F) arg19.view (arg19.view.writes (Elt F) arg19.view.junk (rowPieces 20 192 240 (gRow (View.read (Elt F) arg5.view (harg5.unread x2)) (View.read (Elt F) arg6.view (harg6.unread x3)))))) (View.read (Elt F) arg20.view (arg20.view.writes (Elt F) arg20.view.junk (rowPieces 20 120 128 (lseRow (View.read (Elt F) arg8.view (harg8.unread x5)))))) (View.read (Elt F) arg21.view (arg21.view.writes (Elt F) arg21.view.junk (rowPieces 20 120 128 (dltRow (View.read (Elt F) arg6.view (harg6.unread x3)) (View.read (Elt F) arg7.view (harg7.unread x4)))))) (View.read (Elt F) arg22.view (arg22.view.writes (Elt F) arg22.view.junk (rowPieces 20 8 128 (dpsRow (View.read (Elt F) arg6.view (harg6.unread x3)) (View.read (Elt F) arg4.view (harg4.unread x1)))))) (View.read (Elt F) arg23.view (arg23.view.writes (Elt F) arg23.view.junk (rowPieces 20 8 128 (dosRow (View.read (Elt F) arg6.view (harg6.unread x3)))))) (View.read (Elt F) arg24.view (arg24.view.writes (Elt F) arg24.view.junk [⟨Rect.unit (s := S96x128) ![0, 0] S96x128.size inb_S96x128_S96x128_0_0, k0_pay351⟩]))) = (tileOf i x0 x6 x7 (prepQ x2) (prepDl x3) (prepG x2 x3) (prepLse x5) (prepDlt x3 x4) (prepDps x3 x1) (prepDos x3) k0_pay351) := by rw [harg3.read_unread, harg9.read_unread, harg10.read_unread, h14, h15, h16, h17, h18, h19, h20, h21]
  simp only [cc0_latent_attention_backward_eq_skeleton]; unfold cc0_latent_attention_backward_skel
  simp only [k0_part115_eq_skeleton, k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro
    refine Eq.trans (b := View.read (Elt F) arg13.view (arg13.view.writes (Elt F) (harg13.unread x10) (pieces (tileOf i (View.read (Elt F) arg3.view (harg3.unread x0)) (View.read (Elt F) arg9.view (harg9.unread x6)) (View.read (Elt F) arg10.view (harg10.unread x7)) (View.read (Elt F) arg17.view (arg17.view.writes (Elt F) arg17.view.junk (rowPieces 10 120 96 (qRow (View.read (Elt F) arg5.view (harg5.unread x2)))))) (View.read (Elt F) arg18.view (arg18.view.writes (Elt F) arg18.view.junk (rowPieces 20 128 96 (dlRow (View.read (Elt F) arg6.view (harg6.unread x3)))))) (View.read (Elt F) arg19.view (arg19.view.writes (Elt F) arg19.view.junk (rowPieces 20 192 240 (gRow (View.read (Elt F) arg5.view (harg5.unread x2)) (View.read (Elt F) arg6.view (harg6.unread x3)))))) (View.read (Elt F) arg20.view (arg20.view.writes (Elt F) arg20.view.junk (rowPieces 20 120 128 (lseRow (View.read (Elt F) arg8.view (harg8.unread x5)))))) (View.read (Elt F) arg21.view (arg21.view.writes (Elt F) arg21.view.junk (rowPieces 20 120 128 (dltRow (View.read (Elt F) arg6.view (harg6.unread x3)) (View.read (Elt F) arg7.view (harg7.unread x4)))))) (View.read (Elt F) arg22.view (arg22.view.writes (Elt F) arg22.view.junk (rowPieces 20 8 128 (dpsRow (View.read (Elt F) arg6.view (harg6.unread x3)) (View.read (Elt F) arg4.view (harg4.unread x1)))))) (View.read (Elt F) arg23.view (arg23.view.writes (Elt F) arg23.view.junk (rowPieces 20 8 128 (dosRow (View.read (Elt F) arg6.view (harg6.unread x3)))))) (View.read (Elt F) arg24.view (arg24.view.writes (Elt F) arg24.view.junk [⟨Rect.unit (s := S96x128) ![0, 0] S96x128.size inb_S96x128_S96x128_0_0, k0_pay351⟩]))).dk))) ?_ ((read_pieces _ _ _).trans (congrArg (fun p : Tile F => blockOf p.dk) hT))
    sl_kernel_rfl
  isplitl [H11]
  · iexists _; isplitr; swap; · iexact H11
    ipureintro
    refine Eq.trans (b := View.read (Elt F) arg14.view (arg14.view.writes (Elt F) (harg14.unread x11) (pieces (tileOf i (View.read (Elt F) arg3.view (harg3.unread x0)) (View.read (Elt F) arg9.view (harg9.unread x6)) (View.read (Elt F) arg10.view (harg10.unread x7)) (View.read (Elt F) arg17.view (arg17.view.writes (Elt F) arg17.view.junk (rowPieces 10 120 96 (qRow (View.read (Elt F) arg5.view (harg5.unread x2)))))) (View.read (Elt F) arg18.view (arg18.view.writes (Elt F) arg18.view.junk (rowPieces 20 128 96 (dlRow (View.read (Elt F) arg6.view (harg6.unread x3)))))) (View.read (Elt F) arg19.view (arg19.view.writes (Elt F) arg19.view.junk (rowPieces 20 192 240 (gRow (View.read (Elt F) arg5.view (harg5.unread x2)) (View.read (Elt F) arg6.view (harg6.unread x3)))))) (View.read (Elt F) arg20.view (arg20.view.writes (Elt F) arg20.view.junk (rowPieces 20 120 128 (lseRow (View.read (Elt F) arg8.view (harg8.unread x5)))))) (View.read (Elt F) arg21.view (arg21.view.writes (Elt F) arg21.view.junk (rowPieces 20 120 128 (dltRow (View.read (Elt F) arg6.view (harg6.unread x3)) (View.read (Elt F) arg7.view (harg7.unread x4)))))) (View.read (Elt F) arg22.view (arg22.view.writes (Elt F) arg22.view.junk (rowPieces 20 8 128 (dpsRow (View.read (Elt F) arg6.view (harg6.unread x3)) (View.read (Elt F) arg4.view (harg4.unread x1)))))) (View.read (Elt F) arg23.view (arg23.view.writes (Elt F) arg23.view.junk (rowPieces 20 8 128 (dosRow (View.read (Elt F) arg6.view (harg6.unread x3)))))) (View.read (Elt F) arg24.view (arg24.view.writes (Elt F) arg24.view.junk [⟨Rect.unit (s := S96x128) ![0, 0] S96x128.size inb_S96x128_S96x128_0_0, k0_pay351⟩]))).dv))) ?_ ((read_pieces _ _ _).trans (congrArg (fun p : Tile F => blockOf p.dv) hT))
    sl_kernel_rfl
  isplitl [H12]
  · iexists _; isplitr; swap; · iexact H12
    ipureintro
    refine Eq.trans (b := View.read (Elt F) arg15.view (arg15.view.writes (Elt F) (harg15.unread x12) (headPieces (codesRow (View.read (Elt F) arg6.view (harg6.unread x3)))))) ?_ ((read_headPieces _ _ _).trans (congrArg (fun x => ofHeads (codesRow x)) (harg6.read_unread x3)))
    sl_kernel_rfl
  isplitl [H13]
  · iexists _; isplitr; swap; · iexact H13
    ipureintro
    refine Eq.trans (b := View.read (Elt F) arg16.view (arg16.view.writes (Elt F) (harg16.unread x13) [⟨Rect.unit (s := S2x10) ![0, 0] S2x10.size inb_S2x10_S2x10_0_0, prepScales (View.read (Elt F) arg6.view (harg6.unread x3))⟩])) ?_ ((View.read_writes_full _ _ _ _ _).trans (congrArg prepScales (harg6.read_unread x3)))
    sl_kernel_rfl
  isplitl [H14]
  · iexists _; isplitr; swap; · iexact H14
    ipureintro
    refine Eq.trans (b := View.read (Elt F) arg17.view (arg17.view.writes (Elt F) arg17.view.junk (rowPieces 10 120 96 (qRow (View.read (Elt F) arg5.view (harg5.unread x2)))))) ?_ (h14)
    sl_kernel_rfl
  isplitl [H15]
  · iexists _; isplitr; swap; · iexact H15
    ipureintro
    refine Eq.trans (b := View.read (Elt F) arg18.view (arg18.view.writes (Elt F) arg18.view.junk (rowPieces 20 128 96 (dlRow (View.read (Elt F) arg6.view (harg6.unread x3)))))) ?_ (h15)
    sl_kernel_rfl
  isplitl [H16]
  · iexists _; isplitr; swap; · iexact H16
    ipureintro
    refine Eq.trans (b := View.read (Elt F) arg19.view (arg19.view.writes (Elt F) arg19.view.junk (rowPieces 20 192 240 (gRow (View.read (Elt F) arg5.view (harg5.unread x2)) (View.read (Elt F) arg6.view (harg6.unread x3)))))) ?_ (h16)
    sl_kernel_rfl
  isplitl [H17]
  · iexists _; isplitr; swap; · iexact H17
    ipureintro
    refine Eq.trans (b := View.read (Elt F) arg20.view (arg20.view.writes (Elt F) arg20.view.junk (rowPieces 20 120 128 (lseRow (View.read (Elt F) arg8.view (harg8.unread x5)))))) ?_ (h17)
    sl_kernel_rfl
  isplitl [H18]
  · iexists _; isplitr; swap; · iexact H18
    ipureintro
    refine Eq.trans (b := View.read (Elt F) arg21.view (arg21.view.writes (Elt F) arg21.view.junk (rowPieces 20 120 128 (dltRow (View.read (Elt F) arg6.view (harg6.unread x3)) (View.read (Elt F) arg7.view (harg7.unread x4)))))) ?_ (h18)
    sl_kernel_rfl
  isplitl [H19]
  · iexists _; isplitr; swap; · iexact H19
    ipureintro
    refine Eq.trans (b := View.read (Elt F) arg22.view (arg22.view.writes (Elt F) arg22.view.junk (rowPieces 20 8 128 (dpsRow (View.read (Elt F) arg6.view (harg6.unread x3)) (View.read (Elt F) arg4.view (harg4.unread x1)))))) ?_ (h19)
    sl_kernel_rfl
  isplitl [H20]
  · iexists _; isplitr; swap; · iexact H20
    ipureintro
    refine Eq.trans (b := View.read (Elt F) arg23.view (arg23.view.writes (Elt F) arg23.view.junk (rowPieces 20 8 128 (dosRow (View.read (Elt F) arg6.view (harg6.unread x3)))))) ?_ (h20)
    sl_kernel_rfl
  isplitl [H21]
  · iexists _; isplitr; swap; · iexact H21
    ipureintro
    refine Eq.trans (b := View.read (Elt F) arg24.view (arg24.view.writes (Elt F) (harg24.unread x21) (⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (arg17.view.writes (Elt F) arg17.view.junk (rowPieces 10 120 96 (qRow (View.read (Elt F) arg5.view (harg5.unread x2)))))) (View.read (Elt F) arg18.view (arg18.view.writes (Elt F) arg18.view.junk (rowPieces 20 128 96 (dlRow (View.read (Elt F) arg6.view (harg6.unread x3)))))) (View.read (Elt F) arg19.view (arg19.view.writes (Elt F) arg19.view.junk (rowPieces 20 192 240 (gRow (View.read (Elt F) arg5.view (harg5.unread x2)) (View.read (Elt F) arg6.view (harg6.unread x3)))))) (View.read (Elt F) arg20.view (arg20.view.writes (Elt F) arg20.view.junk (rowPieces 20 120 128 (lseRow (View.read (Elt F) arg8.view (harg8.unread x5)))))) (View.read (Elt F) arg21.view (arg21.view.writes (Elt F) arg21.view.junk (rowPieces 20 120 128 (dltRow (View.read (Elt F) arg6.view (harg6.unread x3)) (View.read (Elt F) arg7.view (harg7.unread x4)))))) (View.read (Elt F) arg22.view (arg22.view.writes (Elt F) arg22.view.junk (rowPieces 20 8 128 (dpsRow (View.read (Elt F) arg6.view (harg6.unread x3)) (View.read (Elt F) arg4.view (harg4.unread x1)))))) (View.read (Elt F) arg23.view (arg23.view.writes (Elt F) arg23.view.junk (rowPieces 20 8 128 (dosRow (View.read (Elt F) arg6.view (harg6.unread x3)))))) (View.read (Elt F) arg24.view (arg24.view.writes (Elt F) arg24.view.junk [⟨Rect.unit (s := S96x128) ![0, 0] S96x128.size inb_S96x128_S96x128_0_0, k0_pay351⟩]))).accOut⟩ :: [⟨Rect.unit (s := S96x128) ![0, 0] S96x128.size inb_S96x128_S96x128_0_0, k0_pay351⟩]))) ?_ ((View.read_writes_full _ _ _ _ _).trans (congrArg (fun p : Tile F => p.accOut) hT))
    sl_kernel_rfl
  · iexists _; isplitr; · ipureintro; exact harg25.read_unread _
    iexact H22

end Cert.KernelIdeal.Gen

end
-- ==== Proof.KernelIdealRunB.lean ====
/- The body at a point that starts a head and batch, other than the first: the running sum starts from zero. -/
module

public import proofs.«01_k».proof.Proof.KernelIdealRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 12000000 in
/-- The body at a point that starts a head and batch, other than the first: the running sum starts from zero. -/
theorem run_B (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : ¬ cond0_0 i) (hc1 : cond0_1 i) (hc2 : ¬ cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3) (x8 : Vec F S1x96x120 .bf16) (x9 : Vec F S1x1x96x120 .f32) (x10 : Vec F S1x1x96x8192 .bf16) (x11 : Vec F S1x1x96x8192 .bf16) (x12 : Vec F S2x10x96x120 .fp8e5m2) (x13 : Vec F S2x10 .f32) (x14 : Vec F S10x120x96 .bf16) (x15 : Vec F S20x128x96 .fp8e5m2) (x16 : Vec F S20x192x240 .bf16) (x17 : Vec F S20x120x128 .f32) (x18 : Vec F S20x120x128 .f32) (x19 : Vec F S20x8x128 .f32) (x20 : Vec F S20x8x128 .f32) (x21 : Vec F S96x128 .f32) (x22 : Vec F S96x120 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (blockOf (tileOf i x0 x6 x7 x14 x15 x16 x17 x18 x19 x20 k0_pay351).dk) ∗ owns (c : Thread nD τ) arg14 fullShare (blockOf (tileOf i x0 x6 x7 x14 x15 x16 x17 x18 x19 x20 k0_pay351).dv) ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare (tileOf i x0 x6 x7 x14 x15 x16 x17 x18 x19 x20 k0_pay351).accOut ∗ owns (c : Thread nD τ) arg25 fullShare x22) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have h21 : (View.read (Elt F) arg24.view (arg24.view.writes (Elt F) arg24.view.junk [⟨Rect.unit (s := S96x128) ![0, 0] S96x128.size inb_S96x128_S96x128_0_0, k0_pay351⟩])) = (k0_pay351 : FVec F S96x128 .f32) := View.read_writes_full _ _ _ _ _
  have hT : (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (arg24.view.writes (Elt F) arg24.view.junk [⟨Rect.unit (s := S96x128) ![0, 0] S96x128.size inb_S96x128_S96x128_0_0, k0_pay351⟩]))) = (tileOf i x0 x6 x7 x14 x15 x16 x17 x18 x19 x20 k0_pay351) := by rw [harg3.read_unread, harg9.read_unread, harg10.read_unread, harg17.read_unread, harg18.read_unread, harg19.read_unread, harg20.read_unread, harg21.read_unread, harg22.read_unread, harg23.read_unread, h21]
  simp only [cc0_latent_attention_backward_eq_skeleton]; unfold cc0_latent_attention_backward_skel
  simp only [k0_part115_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro
    refine Eq.trans (b := View.read (Elt F) arg13.view (arg13.view.writes (Elt F) (harg13.unread x10) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (arg24.view.writes (Elt F) arg24.view.junk [⟨Rect.unit (s := S96x128) ![0, 0] S96x128.size inb_S96x128_S96x128_0_0, k0_pay351⟩]))).dk))) ?_ ((read_pieces _ _ _).trans (congrArg (fun p : Tile F => blockOf p.dk) hT))
    sl_kernel_rfl
  isplitl [H11]
  · iexists _; isplitr; swap; · iexact H11
    ipureintro
    refine Eq.trans (b := View.read (Elt F) arg14.view (arg14.view.writes (Elt F) (harg14.unread x11) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (arg24.view.writes (Elt F) arg24.view.junk [⟨Rect.unit (s := S96x128) ![0, 0] S96x128.size inb_S96x128_S96x128_0_0, k0_pay351⟩]))).dv))) ?_ ((read_pieces _ _ _).trans (congrArg (fun p : Tile F => blockOf p.dv) hT))
    sl_kernel_rfl
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; swap; · iexact H21
    ipureintro
    refine Eq.trans (b := View.read (Elt F) arg24.view (arg24.view.writes (Elt F) (harg24.unread x21) (⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (arg24.view.writes (Elt F) arg24.view.junk [⟨Rect.unit (s := S96x128) ![0, 0] S96x128.size inb_S96x128_S96x128_0_0, k0_pay351⟩]))).accOut⟩ :: [⟨Rect.unit (s := S96x128) ![0, 0] S96x128.size inb_S96x128_S96x128_0_0, k0_pay351⟩]))) ?_ ((View.read_writes_full _ _ _ _ _).trans (congrArg (fun p : Tile F => p.accOut) hT))
    sl_kernel_rfl
  · iexists _; isplitr; · ipureintro; exact harg25.read_unread _
    iexact H22

end Cert.KernelIdeal.Gen

end
-- ==== Proof.KernelIdealRunD.lean ====
/- The body at a point that ends a head and batch: the query gradient too. -/
module

public import proofs.«01_k».proof.Proof.KernelIdealRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 12000000 in
/-- The body at a point that ends a head and batch: the query gradient too. -/
theorem run_D (c : Dev nD) (i : grid0.Coords)
    (arg3 : Memref sig .tc .smem S2x10 .f32) (harg3 : arg3.IsWhole)
    (arg4 : Memref sig .tc .smem S2x10 .f32) (harg4 : arg4.IsWhole)
    (arg5 : Memref sig .tc .vmem S10x96x120 .bf16) (harg5 : arg5.IsWhole)
    (arg6 : Memref sig .tc .vmem S2x10x96x120 .bf16) (harg6 : arg6.IsWhole)
    (arg7 : Memref sig .tc .vmem S2x10x96x120 .bf16) (harg7 : arg7.IsWhole)
    (arg8 : Memref sig .tc .vmem S10x2x120 .f32) (harg8 : arg8.IsWhole)
    (arg9 : Memref sig .tc .vmem S1x1x96x8192 .fp8e4m3) (harg9 : arg9.IsWhole)
    (arg10 : Memref sig .tc .vmem S1x1x96x8192 .fp8e4m3) (harg10 : arg10.IsWhole)
    (arg11 : Memref sig .tc .vmem S1x96x120 .bf16) (harg11 : arg11.IsWhole)
    (arg12 : Memref sig .tc .vmem S1x1x96x120 .f32) (harg12 : arg12.IsWhole)
    (arg13 : Memref sig .tc .vmem S1x1x96x8192 .bf16) (harg13 : arg13.IsWhole)
    (arg14 : Memref sig .tc .vmem S1x1x96x8192 .bf16) (harg14 : arg14.IsWhole)
    (arg15 : Memref sig .tc .vmem S2x10x96x120 .fp8e5m2) (harg15 : arg15.IsWhole)
    (arg16 : Memref sig .tc .vmem S2x10 .f32) (harg16 : arg16.IsWhole)
    (arg17 : Memref sig .tc .vmem S10x120x96 .bf16) (harg17 : arg17.IsWhole)
    (arg18 : Memref sig .tc .vmem S20x128x96 .fp8e5m2) (harg18 : arg18.IsWhole)
    (arg19 : Memref sig .tc .vmem S20x192x240 .bf16) (harg19 : arg19.IsWhole)
    (arg20 : Memref sig .tc .vmem S20x120x128 .f32) (harg20 : arg20.IsWhole)
    (arg21 : Memref sig .tc .vmem S20x120x128 .f32) (harg21 : arg21.IsWhole)
    (arg22 : Memref sig .tc .vmem S20x8x128 .f32) (harg22 : arg22.IsWhole)
    (arg23 : Memref sig .tc .vmem S20x8x128 .f32) (harg23 : arg23.IsWhole)
    (arg24 : Memref sig .tc .vmem S96x128 .f32) (harg24 : arg24.IsWhole)
    (arg25 : Memref sig .tc .vmem S96x120 .f32) (harg25 : arg25.IsWhole)
    (hc0 : ¬ cond0_0 i) (hc1 : ¬ cond0_1 i) (hc2 : cond0_2 i)
    (x0 : Vec F S2x10 .f32) (x1 : Vec F S2x10 .f32) (x2 : Vec F S10x96x120 .bf16) (x3 : Vec F S2x10x96x120 .bf16) (x4 : Vec F S2x10x96x120 .bf16) (x5 : Vec F S10x2x120 .f32) (x6 : Vec F S1x1x96x8192 .fp8e4m3) (x7 : Vec F S1x1x96x8192 .fp8e4m3) (x8 : Vec F S1x96x120 .bf16) (x9 : Vec F S1x1x96x120 .f32) (x10 : Vec F S1x1x96x8192 .bf16) (x11 : Vec F S1x1x96x8192 .bf16) (x12 : Vec F S2x10x96x120 .fp8e5m2) (x13 : Vec F S2x10 .f32) (x14 : Vec F S10x120x96 .bf16) (x15 : Vec F S20x128x96 .fp8e5m2) (x16 : Vec F S20x192x240 .bf16) (x17 : Vec F S20x120x128 .f32) (x18 : Vec F S20x120x128 .f32) (x19 : Vec F S20x8x128 .f32) (x20 : Vec F S20x8x128 .f32) (x21 : Vec F S96x128 .f32) (x22 : Vec F S96x120 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare ((tileOf i x0 x6 x7 x14 x15 x16 x17 x18 x19 x20 x21).dq (BitVec.ofNat 32 (i 1).val) x22) ∗ owns (c : Thread nD τ) arg12 fullShare (tileOf i x0 x6 x7 x14 x15 x16 x17 x18 x19 x20 x21).dqs ∗ owns (c : Thread nD τ) arg13 fullShare (blockOf (tileOf i x0 x6 x7 x14 x15 x16 x17 x18 x19 x20 x21).dk) ∗ owns (c : Thread nD τ) arg14 fullShare (blockOf (tileOf i x0 x6 x7 x14 x15 x16 x17 x18 x19 x20 x21).dv) ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare (tileOf i x0 x6 x7 x14 x15 x16 x17 x18 x19 x20 x21).accOut ∗ owns (c : Thread nD τ) arg25 fullShare ((tileOf i x0 x6 x7 x14 x15 x16 x17 x18 x19 x20 x21).sum (BitVec.ofNat 32 (i 1).val) x22)) -∗ K ⟨⟩))
      ⊢ wp frame (wpE (defs₀ (F := F)) Variants.none c none) E
          (cc0_latent_attention_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have hT : (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))) = (tileOf i x0 x6 x7 x14 x15 x16 x17 x18 x19 x20 x21) := by rw [harg3.read_unread, harg9.read_unread, harg10.read_unread, harg17.read_unread, harg18.read_unread, harg19.read_unread, harg20.read_unread, harg21.read_unread, harg22.read_unread, harg23.read_unread, harg24.read_unread]
  have hA : (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩])) = (tileOf i x0 x6 x7 x14 x15 x16 x17 x18 x19 x20 x21).accOut := (View.read_writes_full _ _ _ _ _).trans (congrArg (fun p : Tile F => p.accOut) hT)
  have hS : (sumOf (BitVec.ofNat 32 (i 1).val) (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).ks (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩])) (View.read (Elt F) arg25.view (harg25.unread x22))) = (tileOf i x0 x6 x7 x14 x15 x16 x17 x18 x19 x20 x21).sum (BitVec.ofNat 32 (i 1).val) x22 := by rw [hA, hT, harg25.read_unread]; rfl
  have hS2 : (View.read (Elt F) arg25.view (arg25.view.writes (Elt F) arg25.view.junk [⟨Rect.unit (s := S96x120) ![0, 0] S96x120.size inb_S96x120_S96x120_0_0, (sumOf (BitVec.ofNat 32 (i 1).val) (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).ks (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩])) (View.read (Elt F) arg25.view (harg25.unread x22)))⟩])) = (tileOf i x0 x6 x7 x14 x15 x16 x17 x18 x19 x20 x21).sum (BitVec.ofNat 32 (i 1).val) x22 := (View.read_writes_full _ _ _ _ _).trans hS
  simp only [cc0_latent_attention_backward_eq_skeleton]; unfold cc0_latent_attention_backward_skel
  simp only [k0_part115_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    refine Eq.trans (b := View.read (Elt F) arg11.view (arg11.view.writes (Elt F) (harg11.unread x8) [⟨Rect.unit (s := S1x96x120) ![0, 0, 0] S1x96x120.size inb_S1x96x120_S1x96x120_0_0_0, dqOf (View.read (Elt F) arg25.view (arg25.view.writes (Elt F) arg25.view.junk [⟨Rect.unit (s := S96x120) ![0, 0] S96x120.size inb_S96x120_S96x120_0_0, (sumOf (BitVec.ofNat 32 (i 1).val) (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).ks (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩])) (View.read (Elt F) arg25.view (harg25.unread x22)))⟩]))⟩])) ?_ ((View.read_writes_full _ _ _ _ _).trans (by rw [hS2]; rfl))
    sl_kernel_rfl
  isplitl [H9]
  · iexists _; isplitr; swap; · iexact H9
    ipureintro
    refine Eq.trans (b := View.read (Elt F) arg12.view (arg12.view.writes (Elt F) (harg12.unread x9) [⟨Rect.unit (s := S1x1x96x120) ![0, 0, 0, 0] S1x1x96x120.size inb_S1x1x96x120_S1x1x96x120_0_0_0_0, dqsOf (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).ks (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩]))⟩])) ?_ ((View.read_writes_full _ _ _ _ _).trans (by rw [hA, hT]; rfl))
    sl_kernel_rfl
  isplitl [H10]
  · iexists _; isplitr; swap; · iexact H10
    ipureintro
    refine Eq.trans (b := View.read (Elt F) arg13.view (arg13.view.writes (Elt F) (harg13.unread x10) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).dk))) ?_ ((read_pieces _ _ _).trans (congrArg (fun p : Tile F => blockOf p.dk) hT))
    sl_kernel_rfl
  isplitl [H11]
  · iexists _; isplitr; swap; · iexact H11
    ipureintro
    refine Eq.trans (b := View.read (Elt F) arg14.view (arg14.view.writes (Elt F) (harg14.unread x11) (pieces (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).dv))) ?_ ((read_pieces _ _ _).trans (congrArg (fun p : Tile F => blockOf p.dv) hT))
    sl_kernel_rfl
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  isplitl [H19]
  · iexists _; isplitr; · ipureintro; exact harg22.read_unread _
    iexact H19
  isplitl [H20]
  · iexists _; isplitr; · ipureintro; exact harg23.read_unread _
    iexact H20
  isplitl [H21]
  · iexists _; isplitr; swap; · iexact H21
    ipureintro
    refine Eq.trans (b := View.read (Elt F) arg24.view (arg24.view.writes (Elt F) (harg24.unread x21) (⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩ :: []))) ?_ ((View.read_writes_full _ _ _ _ _).trans (congrArg (fun p : Tile F => p.accOut) hT))
    sl_kernel_rfl
  · iexists _; isplitr; swap; · iexact H22
    ipureintro
    refine Eq.trans (b := View.read (Elt F) arg25.view (arg25.view.writes (Elt F) (harg25.unread x22) [⟨Rect.unit (s := S96x120) ![0, 0] S96x120.size inb_S96x120_S96x120_0_0, (sumOf (BitVec.ofNat 32 (i 1).val) (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).ks (View.read (Elt F) arg24.view (arg24.view.writes (Elt F) arg24.view.junk [⟨Rect.unit (s := S96x128) ![0, 0] S96x128.size inb_S96x128_S96x128_0_0, (tileOf i (View.read (Elt F) arg3.view (harg3.unread x0)) (View.read (Elt F) arg9.view (harg9.unread x6)) (View.read (Elt F) arg10.view (harg10.unread x7)) (View.read (Elt F) arg17.view (harg17.unread x14)) (View.read (Elt F) arg18.view (harg18.unread x15)) (View.read (Elt F) arg19.view (harg19.unread x16)) (View.read (Elt F) arg20.view (harg20.unread x17)) (View.read (Elt F) arg21.view (harg21.unread x18)) (View.read (Elt F) arg22.view (harg22.unread x19)) (View.read (Elt F) arg23.view (harg23.unread x20)) (View.read (Elt F) arg24.view (harg24.unread x21))).accOut⟩])) (View.read (Elt F) arg25.view (harg25.unread x22)))⟩])) ?_ ((View.read_writes_full _ _ _ _ _).trans hS)
    sl_kernel_rfl

end Cert.KernelIdeal.Gen

end
-- ==== Proof.KernelIdealFrame.lean ====
/- The run of the kernel with what every output holds: its proof data, the obligation at every grid point, and the launch. -/
module

public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.Gen.KernelIdeal.Points
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each point computes -/

/-- The first grid point. -/
abbrev p0 : Fin cfg0.N := ⟨0, by rw [show cfg0.N = 160 from N_0]; omega⟩

/-- The prepared arrays, from the blocks the first point reads. -/
abbrev q0 (c : Dev nD) : Vec F S10x120x96 .bf16 := prepQ (iblk m c 2 p0)
abbrev dl0 (c : Dev nD) : Vec F S20x128x96 .fp8e5m2 := prepDl (iblk m c 3 p0)
abbrev g0 (c : Dev nD) : Vec F S20x192x240 .bf16 := prepG (iblk m c 2 p0) (iblk m c 3 p0)
abbrev lse0 (c : Dev nD) : Vec F S20x120x128 .f32 := prepLse (iblk m c 5 p0)
abbrev dlt0 (c : Dev nD) : Vec F S20x120x128 .f32 := prepDlt (iblk m c 3 p0) (iblk m c 4 p0)
abbrev dps0 (c : Dev nD) : Vec F S20x8x128 .f32 := prepDps (iblk m c 3 p0) (iblk m c 1 p0)
abbrev dos0 (c : Dev nD) : Vec F S20x8x128 .f32 := prepDos (iblk m c 3 p0)

/-- The tile of point `t`, its running sum starting from `a`. -/
def tileAt (c : Dev nD) (t : Fin cfg0.N) (a : Vec F S96x128 .f32) : Tile F :=
  tileOf (grid0.coords t) (iblk m c 0 t) (iblk m c 6 t) (iblk m c 7 t) (q0 m c) (dl0 m c) (g0 m c) (lse0 m c) (dlt0 m c) (dps0 m c) (dos0 m c) a

/-- The running sum as the first `n` points leave it: a point that starts a head and batch starts it from zero. -/
def accLeft (c : Dev nD) : ℕ → Vec F S96x128 .f32
  | 0 => k0_pay351
  | n + 1 => if h : n < cfg0.N then (tileAt m c ⟨n, h⟩ (if n % 8 = 0 then k0_pay351 else accLeft c n)).accOut else k0_pay351

/-- The tile of point `t`, its running sum as the points before left it. -/
def tileT (c : Dev nD) (t : Fin cfg0.N) : Tile F := tileAt m c t (if t.val % 8 = 0 then k0_pay351 else accLeft m c t.val)

theorem accLeft_succ (c : Dev nD) (t : Fin cfg0.N) : accLeft m c (t.val + 1) = (tileT m c t).accOut := by
  rw [accLeft, dif_pos t.isLt, tileT]

/-- The first batch's query gradient of head `h`, before rounding. -/
def batchSum (c : Dev nD) (h : ℕ) : Vec F S96x120 .f32 :=
  if hh : 16 * h + 7 < cfg0.N then (tileT m c ⟨16 * h + 7, hh⟩).sum 0#32 (constant S96x120 .f32 0x00000000#32) else constant S96x120 .f32 0x00000000#32

/-- The first batch's sum does not use what the buffer held. -/
theorem sum_zero (p : Tile F) (y y' : Vec F S96x120 .f32) : p.sum 0#32 y = p.sum 0#32 y' := by
  unfold Tile.sum sumOf k0_pay642; rfl

theorem batchSum_eq (c : Dev nD) (t : Fin cfg0.N) (ht : t.val % 16 = 7) (y) : batchSum m c (t.val / 16) = (tileT m c t).sum 0#32 y := by
  have e : 16 * (t.val / 16) + 7 = t.val := by omega
  unfold batchSum
  rw [dif_pos (by rw [e]; exact t.isLt), show (⟨16 * (t.val / 16) + 7, by rw [e]; exact t.isLt⟩ : Fin cfg0.N) = t from Fin.ext e]
  exact sum_zero _ _ _

/-- What the query gradient's buffer holds after a point that ends a head and batch. -/
def dqT (c : Dev nD) (t : Fin cfg0.N) : Vec F S1x96x120 .bf16 :=
  (tileT m c t).dq (BitVec.ofNat 32 (grid0.coords t 1).val) (batchSum m c (t.val / 16))

/-- The batch of point `t`. -/
theorem coords_1 (t : Fin cfg0.N) : ((grid0.coords t) 1).val = t.val / 8 % 2 :=
  (by decide +kernel : ∀ t : Fin grid0.N, ((grid0.coords t) 1).val = t.val / 8 % 2) t
theorem coords_0 (t : Fin cfg0.N) : ((grid0.coords t) 0).val = t.val / 16 :=
  (by decide +kernel : ∀ t : Fin grid0.N, ((grid0.coords t) 0).val = t.val / 16) t
theorem coords_2 (t : Fin cfg0.N) : ((grid0.coords t) 2).val = t.val % 8 :=
  (by decide +kernel : ∀ t : Fin grid0.N, ((grid0.coords t) 2).val = t.val % 8) t

/-- At a point that ends a head and batch, the sum is the one from the first batch's. -/
theorem sum_eq (c : Dev nD) (t : Fin cfg0.N) (h7 : t.val % 8 = 7) (y : Vec F S96x120 .f32)
    (hy : 8 ≤ t.val % 16 → y = batchSum m c (t.val / 16)) :
    (tileT m c t).sum (BitVec.ofNat 32 (grid0.coords t 1).val) y
      = (tileT m c t).sum (BitVec.ofNat 32 (grid0.coords t 1).val) (batchSum m c (t.val / 16)) := by
  by_cases h : t.val % 16 = 7
  · rw [coords_1, show t.val / 8 % 2 = 0 by omega]
    exact sum_zero _ _ _
  · rw [hy (by omega)]

/-! ## The proof data -/

/-- The scratch before point `n ≥ 1`: prepared, the running sum as the point before left it, the sum over batches the
    first batch's where the second is under way. -/
def PhiB (c : Dev nD) (n : ℕ) : sProp 𝕄 :=
  iprop(iprop(owns (c : Thread nD τ) scM0_0 fullShare (q0 m c) ∗ owns (c : Thread nD τ) scM0_1 fullShare (dl0 m c) ∗ owns (c : Thread nD τ) scM0_2 fullShare (g0 m c)
    ∗ owns (c : Thread nD τ) scM0_3 fullShare (lse0 m c) ∗ owns (c : Thread nD τ) scM0_4 fullShare (dlt0 m c) ∗ owns (c : Thread nD τ) scM0_5 fullShare (dps0 m c)
    ∗ owns (c : Thread nD τ) scM0_6 fullShare (dos0 m c) ∗ owns (c : Thread nD τ) scM0_7 fullShare (accLeft m c n)
    ∗ (∃ y, ⌜8 ≤ n % 16 → y = batchSum m c (n / 16)⌝ ∗ owns (c : Thread nD τ) scM0_8 fullShare y)) ∗ (∃ g, prngReg c g))

/-- The arrays as the region finds them; each input's buffer at its block; each output's at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqT m c t
    | ⟨9, _⟩ => (tileT m c t).dqs
    | ⟨10, _⟩ => blockOf (tileT m c t).dk
    | ⟨11, _⟩ => blockOf (tileT m c t).dv
    | ⟨12, _⟩ => prepCodes (iblk m c 3 p0)
    | ⟨13, _⟩ => prepScales (iblk m c 3 p0)
  Φ t := if t.val = 0 then Pipeline.ΦA spec0 c else PhiB m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqT m c t := by dsimp only [dats]
theorem after0_9 (c : Dev nD) (t : Fin cfg0.N) : (dats m 0 c).after 9 t = (tileT m c t).dqs := by dsimp only [dats]
theorem after0_10 (c : Dev nD) (t : Fin cfg0.N) : (dats m 0 c).after 10 t = blockOf (tileT m c t).dk := by dsimp only [dats]
theorem after0_11 (c : Dev nD) (t : Fin cfg0.N) : (dats m 0 c).after 11 t = blockOf (tileT m c t).dv := by dsimp only [dats]
theorem after0_12 (c : Dev nD) (t : Fin cfg0.N) : (dats m 0 c).after 12 t = prepCodes (iblk m c 3 p0) := by dsimp only [dats]
theorem after0_13 (c : Dev nD) (t : Fin cfg0.N) : (dats m 0 c).after 13 t = prepScales (iblk m c 3 p0) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem live_8 (t : Fin cfg0.N) (h : t.val % 8 = 7) : cfg0.idle 8 (grid0.coords t) = false := by
  show (!(k0_cond3 (grid0.coords t) == 1#1)) = false
  rw [show k0_cond3 (grid0.coords t) = 1#1 from (hcond0_2 t).mpr h]; rfl
theorem idle_8 (t : Fin cfg0.N) (h : ¬ t.val % 8 = 7) : cfg0.idle 8 (grid0.coords t) = true := by
  show (!(k0_cond3 (grid0.coords t) == 1#1)) = true
  rw [Bool.not_eq_true', beq_eq_false_iff_ne]; exact fun e => h ((hcond0_2 t).mp e)
theorem live_9 (t : Fin cfg0.N) (h : t.val % 8 = 7) : cfg0.idle 9 (grid0.coords t) = false := by
  show (!(k0_cond3 (grid0.coords t) == 1#1)) = false
  rw [show k0_cond3 (grid0.coords t) = 1#1 from (hcond0_2 t).mpr h]; rfl
theorem idle_9 (t : Fin cfg0.N) (h : ¬ t.val % 8 = 7) : cfg0.idle 9 (grid0.coords t) = true := by
  show (!(k0_cond3 (grid0.coords t) == 1#1)) = true
  rw [Bool.not_eq_true', beq_eq_false_iff_ne]; exact fun e => h ((hcond0_2 t).mp e)
theorem live_12 (t : Fin cfg0.N) (h : t.val % 160 = 0) : cfg0.idle 12 (grid0.coords t) = false := by
  show (!(k0_cond1 (grid0.coords t) == 1#1)) = false
  rw [show k0_cond1 (grid0.coords t) = 1#1 from (hcond0_0 t).mpr h]; rfl
theorem idle_12 (t : Fin cfg0.N) (h : ¬ t.val % 160 = 0) : cfg0.idle 12 (grid0.coords t) = true := by
  show (!(k0_cond1 (grid0.coords t) == 1#1)) = true
  rw [Bool.not_eq_true', beq_eq_false_iff_ne]; exact fun e => h ((hcond0_0 t).mp e)
theorem live_13 (t : Fin cfg0.N) (h : t.val % 160 = 0) : cfg0.idle 13 (grid0.coords t) = false := by
  show (!(k0_cond1 (grid0.coords t) == 1#1)) = false
  rw [show k0_cond1 (grid0.coords t) = 1#1 from (hcond0_0 t).mpr h]; rfl
theorem idle_13 (t : Fin cfg0.N) (h : ¬ t.val % 160 = 0) : cfg0.idle 13 (grid0.coords t) = true := by
  show (!(k0_cond1 (grid0.coords t) == 1#1)) = true
  rw [Bool.not_eq_true', beq_eq_false_iff_ne]; exact fun e => h ((hcond0_0 t).mp e)
theorem idleAt_8 (c : Dev nD) (t : Fin cfg0.N) (h : ¬ t.val % 8 = 7) :
    (dats m 0 c).leavesExact 8 t = iprop(∃ d, owns (c : Thread nD τ) (ms0_8 t) fullShare ((dats m 0 c).before 8 t d)) :=
  (dats m 0 c).leavesExact_idle 8 t (idle_8 t h) (Bool.eq_false_iff.mpr fun e => by have := (flush0_8 t).mp e; omega)
theorem idleAt_9 (c : Dev nD) (t : Fin cfg0.N) (h : ¬ t.val % 8 = 7) :
    (dats m 0 c).leavesExact 9 t = iprop(∃ d, owns (c : Thread nD τ) (ms0_9 t) fullShare ((dats m 0 c).before 9 t d)) :=
  (dats m 0 c).leavesExact_idle 9 t (idle_9 t h) (Bool.eq_false_iff.mpr fun e => by have := (flush0_9 t).mp e; omega)
theorem liveLeaves_0 (c : Dev nD) (t : Fin cfg0.N) : (dats m 0 c).leavesExact 0 t = owns (c : Thread nD τ) (ms0_0 t) fullShare (iblk m c 0 t) := by
  unfold Dat.leavesExact; rw [liveAt0_0 t, after0_0]
theorem liveLeaves_1 (c : Dev nD) (t : Fin cfg0.N) : (dats m 0 c).leavesExact 1 t = owns (c : Thread nD τ) (ms0_1 t) fullShare (iblk m c 1 t) := by
  unfold Dat.leavesExact; rw [liveAt0_1 t, after0_1]
theorem liveLeaves_2 (c : Dev nD) (t : Fin cfg0.N) : (dats m 0 c).leavesExact 2 t = owns (c : Thread nD τ) (ms0_2 t) fullShare (iblk m c 2 t) := by
  unfold Dat.leavesExact; rw [liveAt0_2 t, after0_2]
theorem liveLeaves_3 (c : Dev nD) (t : Fin cfg0.N) : (dats m 0 c).leavesExact 3 t = owns (c : Thread nD τ) (ms0_3 t) fullShare (iblk m c 3 t) := by
  unfold Dat.leavesExact; rw [liveAt0_3 t, after0_3]
theorem liveLeaves_4 (c : Dev nD) (t : Fin cfg0.N) : (dats m 0 c).leavesExact 4 t = owns (c : Thread nD τ) (ms0_4 t) fullShare (iblk m c 4 t) := by
  unfold Dat.leavesExact; rw [liveAt0_4 t, after0_4]
theorem liveLeaves_5 (c : Dev nD) (t : Fin cfg0.N) : (dats m 0 c).leavesExact 5 t = owns (c : Thread nD τ) (ms0_5 t) fullShare (iblk m c 5 t) := by
  unfold Dat.leavesExact; rw [liveAt0_5 t, after0_5]
theorem liveLeaves_6 (c : Dev nD) (t : Fin cfg0.N) : (dats m 0 c).leavesExact 6 t = owns (c : Thread nD τ) (ms0_6 t) fullShare (iblk m c 6 t) := by
  unfold Dat.leavesExact; rw [liveAt0_6 t, after0_6]
theorem liveLeaves_7 (c : Dev nD) (t : Fin cfg0.N) : (dats m 0 c).leavesExact 7 t = owns (c : Thread nD τ) (ms0_7 t) fullShare (iblk m c 7 t) := by
  unfold Dat.leavesExact; rw [liveAt0_7 t, after0_7]
theorem liveLeaves_8 (c : Dev nD) (t : Fin cfg0.N) (h : t.val % 8 = 7) : (dats m 0 c).leavesExact 8 t = owns (c : Thread nD τ) (ms0_8 t) fullShare (dqT m c t) := by
  unfold Dat.leavesExact; rw [live_8 t h, after0_8]
theorem liveLeaves_9 (c : Dev nD) (t : Fin cfg0.N) (h : t.val % 8 = 7) : (dats m 0 c).leavesExact 9 t = owns (c : Thread nD τ) (ms0_9 t) fullShare ((tileT m c t).dqs) := by
  unfold Dat.leavesExact; rw [live_9 t h, after0_9]
theorem liveLeaves_10 (c : Dev nD) (t : Fin cfg0.N) : (dats m 0 c).leavesExact 10 t = owns (c : Thread nD τ) (ms0_10 t) fullShare (blockOf (tileT m c t).dk) := by
  unfold Dat.leavesExact; rw [(rfl : cfg0.idle 10 (grid0.coords t) = false), after0_10]
theorem liveLeaves_11 (c : Dev nD) (t : Fin cfg0.N) : (dats m 0 c).leavesExact 11 t = owns (c : Thread nD τ) (ms0_11 t) fullShare (blockOf (tileT m c t).dv) := by
  unfold Dat.leavesExact; rw [(rfl : cfg0.idle 11 (grid0.coords t) = false), after0_11]
theorem liveLeaves_12 (c : Dev nD) (t : Fin cfg0.N) (h : t.val % 160 = 0) : (dats m 0 c).leavesExact 12 t = owns (c : Thread nD τ) (ms0_12 t) fullShare (prepCodes (iblk m c 3 p0)) := by
  unfold Dat.leavesExact; rw [live_12 t h, after0_12]
theorem liveLeaves_13 (c : Dev nD) (t : Fin cfg0.N) (h : t.val % 160 = 0) : (dats m 0 c).leavesExact 13 t = owns (c : Thread nD τ) (ms0_13 t) fullShare (prepScales (iblk m c 3 p0)) := by
  unfold Dat.leavesExact; rw [live_13 t h, after0_13]
theorem fresh_12 : ∀ n, n ≤ cfg0.N → cfg0.fresh 12 n = (decide (n = 0) || decide (n = 160)) :=
  cfg0.fresh_tab 12 (fun n => decide (n = 0) || decide (n = 160)) rfl fun t => by
    have hN : t.val < 160 := lt_of_lt_of_eq t.isLt (show cfg0.N = 160 from N_0)
    have e0 : decide (t.val + 1 = 0) = false := decide_eq_false (by omega)
    by_cases h : t.val = 159
    · rw [(flush0_12 t).mpr (by omega), h]; rfl
    · rw [show (cfg0.win 12).flush t = false from Bool.eq_false_iff.mpr fun e => by have := (flush0_12 t).mp e; omega]
      by_cases h0 : t.val = 0
      · rw [live_12 t (by omega), h0]; rfl
      · rw [decide_eq_false (p := t.val + 1 = 0) (by omega), decide_eq_false (p := t.val + 1 = 160) (by omega), decide_eq_false (p := t.val = 0) h0,
          decide_eq_false (p := t.val = 160) (by omega), Bool.or_false, Bool.and_false]; rfl
/-- After the first point the buffer is handed on as it left it. -/
theorem before_12 (c : Dev nD) (t : Fin cfg0.N) (h : ¬ t.val = 0) (d) : (dats m 0 c).before 12 t d = prepCodes (iblk m c 3 p0) := by
  have hN : t.val < 160 := lt_of_lt_of_eq t.isLt (show cfg0.N = 160 from N_0)
  rw [(dats m 0 c).before_out_traj 12 rfl (fun _ _ => rfl) (fun t ht _ _ => by rw [after0_12, after0_12]) t.val t rfl d,
    fresh_12 t.val (Nat.le_of_lt t.isLt), decide_eq_false h, decide_eq_false (p := t.val = 160) (by omega), after0_12]
  rfl
theorem keeps_12 (c : Dev nD) (t : Fin cfg0.N) (h : ¬ t.val = 0) (d) :
    owns (c : Thread nD τ) (ms0_12 t) fullShare ((dats m 0 c).before 12 t d) ⊢ (dats m 0 c).leavesExact 12 t := by
  have hN : t.val < 160 := lt_of_lt_of_eq t.isLt (show cfg0.N = 160 from N_0)
  by_cases hf : (cfg0.win 12).flush t = true
  · unfold Dat.leavesExact; rw [idle_12 t (by omega), hf, before_12 m c t h d, after0_12]
  · rw [(dats m 0 c).leavesExact_idle 12 t (idle_12 t (by omega)) (Bool.eq_false_iff.mpr hf)]
    iintro H; iexists _; iexact H
theorem fresh_13 : ∀ n, n ≤ cfg0.N → cfg0.fresh 13 n = (decide (n = 0) || decide (n = 160)) :=
  cfg0.fresh_tab 13 (fun n => decide (n = 0) || decide (n = 160)) rfl fun t => by
    have hN : t.val < 160 := lt_of_lt_of_eq t.isLt (show cfg0.N = 160 from N_0)
    have e0 : decide (t.val + 1 = 0) = false := decide_eq_false (by omega)
    by_cases h : t.val = 159
    · rw [(flush0_13 t).mpr (by omega), h]; rfl
    · rw [show (cfg0.win 13).flush t = false from Bool.eq_false_iff.mpr fun e => by have := (flush0_13 t).mp e; omega]
      by_cases h0 : t.val = 0
      · rw [live_13 t (by omega), h0]; rfl
      · rw [decide_eq_false (p := t.val + 1 = 0) (by omega), decide_eq_false (p := t.val + 1 = 160) (by omega), decide_eq_false (p := t.val = 0) h0,
          decide_eq_false (p := t.val = 160) (by omega), Bool.or_false, Bool.and_false]; rfl
/-- After the first point the buffer is handed on as it left it. -/
theorem before_13 (c : Dev nD) (t : Fin cfg0.N) (h : ¬ t.val = 0) (d) : (dats m 0 c).before 13 t d = prepScales (iblk m c 3 p0) := by
  have hN : t.val < 160 := lt_of_lt_of_eq t.isLt (show cfg0.N = 160 from N_0)
  rw [(dats m 0 c).before_out_traj 13 rfl (fun _ _ => rfl) (fun t ht _ _ => by rw [after0_13, after0_13]) t.val t rfl d,
    fresh_13 t.val (Nat.le_of_lt t.isLt), decide_eq_false h, decide_eq_false (p := t.val = 160) (by omega), after0_13]
  rfl
theorem keeps_13 (c : Dev nD) (t : Fin cfg0.N) (h : ¬ t.val = 0) (d) :
    owns (c : Thread nD τ) (ms0_13 t) fullShare ((dats m 0 c).before 13 t d) ⊢ (dats m 0 c).leavesExact 13 t := by
  have hN : t.val < 160 := lt_of_lt_of_eq t.isLt (show cfg0.N = 160 from N_0)
  by_cases hf : (cfg0.win 13).flush t = true
  · unfold Dat.leavesExact; rw [idle_13 t (by omega), hf, before_13 m c t h d, after0_13]
  · rw [(dats m 0 c).leavesExact_idle 13 t (idle_13 t (by omega)) (Bool.eq_false_iff.mpr hf)]
    iintro H; iexists _; iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem Phi_first (c : Dev nD) (t : Fin cfg0.N) (h : t.val = 0) : (dats m 0 c).Φ t.castSucc = Pipeline.ΦA spec0 c := by dsimp only [dats]; exact if_pos h
theorem Phi_later (c : Dev nD) (t : Fin cfg0.N) (h : ¬ t.val = 0) : (dats m 0 c).Φ t.castSucc = PhiB m c t.val := by dsimp only [dats]; exact if_neg h
theorem Phi_succ (c : Dev nD) (t : Fin cfg0.N) : (dats m 0 c).Φ t.succ = PhiB m c (t.val + 1) := by dsimp only [dats]; exact if_neg (Nat.succ_ne_zero _)

/-- The running sum of the point, whatever it starts from. -/
theorem tileT_start (c : Dev nD) (t : Fin cfg0.N) (h : t.val % 8 = 0) : tileT m c t = tileAt m c t k0_pay351 := by rw [tileT, if_pos h]
theorem tileT_go (c : Dev nD) (t : Fin cfg0.N) (h : ¬ t.val % 8 = 0) : tileT m c t = tileAt m c t (accLeft m c t.val) := by rw [tileT, if_neg h]

set_option maxHeartbeats 8000000 in
/-- The body at the first point. -/
theorem body_A (c : Dev nD) (t : Fin cfg0.N) (h0 : t.val = 0) :
    bodyPre m c t ⊢ wp frame (wpE (defs₀ (F := F)) Variants.none c none) Set.univ (bodyAt0 t) (fun _ => bodyPost m c t) := by
  have hN : t.val < 160 := lt_of_lt_of_eq t.isLt (show cfg0.N = 160 from N_0)
  obtain rfl : t = p0 := Fin.ext h0
  unfold bodyPre bodyPost bodyAt0
  simp only [before0_0, before0_1, before0_2, before0_3, before0_4, before0_5, before0_6, before0_7]
  rw [show (dats m 0 c).owesAt () p0.succ = (dats m 0 c).owesAt () p0.castSucc from rfl, Phi_succ]
  rw [Phi_first m c p0 rfl, PhiA0_eq]
  unfold PhiB
  rw [accLeft_succ]
  rw [liveLeaves_0, liveLeaves_1, liveLeaves_2, liveLeaves_3, liveLeaves_4, liveLeaves_5, liveLeaves_6, liveLeaves_7, liveLeaves_10, liveLeaves_11]
  rw [idleAt_8 m c p0 (by decide), idleAt_9 m c p0 (by decide), liveLeaves_12 m c p0 rfl, liveLeaves_13 m c p0 rfl, tileT_start m c p0 rfl]
  iintro ⟨⟨⟨⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_A c (grid0.coords p0) _ _ _ _ _ _ _ _ _ _ _ _ _ _ _ _ _ _ _ _ _ _ _ _ _ _ _ _ _ _ _ _ _ _ _ _ _ _ _ _ _ _ _ _ _ _ ((hcond0_0 p0).mpr rfl) ((hcond0_1 p0).mpr rfl) (fun h => absurd ((hcond0_2 p0).mp h) (by decide)) (iblk m c 0 p0) (iblk m c 1 p0) (iblk m c 2 p0) (iblk m c 3 p0) (iblk m c 4 p0) (iblk m c 5 p0) (iblk m c 6 p0) (iblk m c 7 p0) ((dats m 0 c).before 8 p0 d8) ((dats m 0 c).before 9 p0 d9) ((dats m 0 c).before 10 p0 d10) ((dats m 0 c).before 11 p0 d11) ((dats m 0 c).before 12 p0 d12) ((dats m 0 c).before 13 p0 d13) e14 e15 e16 e17 e18 e19 e20 e21 e22 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [H14 H15 H16 H17 H18 H19 H20 H21 H22 Hg]
  · isplitl [H14 H15 H16 H17 H18 H19 H20 H21 H22]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexists _; isplitr; swap; · iexact H22
      ipureintro; exact fun h => absurd h (by decide)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  iexact H13

set_option maxHeartbeats 8000000 in
/-- The body at a later point that starts a head and batch. -/
theorem body_B (c : Dev nD) (t : Fin cfg0.N) (h0 : ¬ t.val = 0) (h1 : t.val % 8 = 0) :
    bodyPre m c t ⊢ wp frame (wpE (defs₀ (F := F)) Variants.none c none) Set.univ (bodyAt0 t) (fun _ => bodyPost m c t) := by
  have hN : t.val < 160 := lt_of_lt_of_eq t.isLt (show cfg0.N = 160 from N_0)
  unfold bodyPre bodyPost bodyAt0
  simp only [before0_0, before0_1, before0_2, before0_3, before0_4, before0_5, before0_6, before0_7]
  rw [show (dats m 0 c).owesAt () t.succ = (dats m 0 c).owesAt () t.castSucc from rfl, Phi_succ]
  rw [Phi_later m c t h0]
  unfold PhiB
  rw [accLeft_succ]
  rw [liveLeaves_0, liveLeaves_1, liveLeaves_2, liveLeaves_3, liveLeaves_4, liveLeaves_5, liveLeaves_6, liveLeaves_7, liveLeaves_10, liveLeaves_11]
  rw [idleAt_8 m c t (by omega), idleAt_9 m c t (by omega), tileT_start m c t h1]
  iintro ⟨⟨⟨H14, H15, H16, H17, H18, H19, H20, H21, ⟨%y, %hy, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ _ _ _ _ _ _ _ _ _ _ _ _ _ _ _ _ _ _ (fun h => by have := (hcond0_0 t).mp h; omega) ((hcond0_1 t).mpr h1) (fun h => by have := (hcond0_2 t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) ((dats m 0 c).before 11 t d11) ((dats m 0 c).before 12 t d12) ((dats m 0 c).before 13 t d13) (q0 m c) (dl0 m c) (g0 m c) (lse0 m c) (dlt0 m c) (dps0 m c) (dos0 m c) (accLeft m c t.val) y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [H14 H15 H16 H17 H18 H19 H20 H21 H22 Hg]
  · isplitl [H14 H15 H16 H17 H18 H19 H20 H21 H22]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexists _; isplitr; swap; · iexact H22
      ipureintro; intro h; rw [show (t.val + 1) / 16 = t.val / 16 by omega]; exact hy (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iapply (keeps_12 m c t h0 _); iexact H12
  iapply (keeps_13 m c t h0 _); iexact H13

set_option maxHeartbeats 8000000 in
/-- The body at a point that neither starts nor ends a head and batch. -/
theorem body_C (c : Dev nD) (t : Fin cfg0.N) (h0 : ¬ t.val = 0) (h1 : ¬ t.val % 8 = 0) (h2 : ¬ t.val % 8 = 7) :
    bodyPre m c t ⊢ wp frame (wpE (defs₀ (F := F)) Variants.none c none) Set.univ (bodyAt0 t) (fun _ => bodyPost m c t) := by
  have hN : t.val < 160 := lt_of_lt_of_eq t.isLt (show cfg0.N = 160 from N_0)
  unfold bodyPre bodyPost bodyAt0
  simp only [before0_0, before0_1, before0_2, before0_3, before0_4, before0_5, before0_6, before0_7]
  rw [show (dats m 0 c).owesAt () t.succ = (dats m 0 c).owesAt () t.castSucc from rfl, Phi_succ]
  rw [Phi_later m c t h0]
  unfold PhiB
  rw [accLeft_succ]
  rw [liveLeaves_0, liveLeaves_1, liveLeaves_2, liveLeaves_3, liveLeaves_4, liveLeaves_5, liveLeaves_6, liveLeaves_7, liveLeaves_10, liveLeaves_11]
  rw [idleAt_8 m c t h2, idleAt_9 m c t h2, tileT_go m c t h1]
  iintro ⟨⟨⟨H14, H15, H16, H17, H18, H19, H20, H21, ⟨%y, %hy, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ _ _ _ _ _ _ _ _ _ _ _ _ _ _ _ _ _ _ (fun h => by have := (hcond0_0 t).mp h; omega) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) ((dats m 0 c).before 11 t d11) ((dats m 0 c).before 12 t d12) ((dats m 0 c).before 13 t d13) (q0 m c) (dl0 m c) (g0 m c) (lse0 m c) (dlt0 m c) (dps0 m c) (dos0 m c) (accLeft m c t.val) y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [H14 H15 H16 H17 H18 H19 H20 H21 H22 Hg]
  · isplitl [H14 H15 H16 H17 H18 H19 H20 H21 H22]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexists _; isplitr; swap; · iexact H22
      ipureintro; intro h; rw [show (t.val + 1) / 16 = t.val / 16 by omega]; exact hy (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iapply (keeps_12 m c t h0 _); iexact H12
  iapply (keeps_13 m c t h0 _); iexact H13

set_option maxHeartbeats 8000000 in
/-- The body at a point that ends a head and batch. -/
theorem body_D (c : Dev nD) (t : Fin cfg0.N) (h0 : ¬ t.val = 0) (h2 : t.val % 8 = 7) :
    bodyPre m c t ⊢ wp frame (wpE (defs₀ (F := F)) Variants.none c none) Set.univ (bodyAt0 t) (fun _ => bodyPost m c t) := by
  have hN : t.val < 160 := lt_of_lt_of_eq t.isLt (show cfg0.N = 160 from N_0)
  unfold bodyPre bodyPost bodyAt0
  simp only [before0_0, before0_1, before0_2, before0_3, before0_4, before0_5, before0_6, before0_7]
  rw [show (dats m 0 c).owesAt () t.succ = (dats m 0 c).owesAt () t.castSucc from rfl, Phi_succ]
  rw [Phi_later m c t h0]
  unfold PhiB
  rw [accLeft_succ]
  rw [liveLeaves_0, liveLeaves_1, liveLeaves_2, liveLeaves_3, liveLeaves_4, liveLeaves_5, liveLeaves_6, liveLeaves_7, liveLeaves_10, liveLeaves_11]
  rw [liveLeaves_8 m c t h2, liveLeaves_9 m c t h2]
  iintro ⟨⟨⟨H14, H15, H16, H17, H18, H19, H20, H21, ⟨%y, %hy, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hdq : dqT m c t = (tileT m c t).dq (BitVec.ofNat 32 (grid0.coords t 1).val) y := by
    unfold dqT Tile.dq; rw [← sum_eq m c t h2 y hy]
  rw [hdq, tileT_go m c t (by omega)]
  iapply (run_D c (grid0.coords t) _ _ _ _ _ _ _ _ _ _ _ _ _ _ _ _ _ _ _ _ _ _ _ _ _ _ _ _ _ _ _ _ _ _ _ _ _ _ _ _ _ _ _ _ _ _ (fun h => by have := (hcond0_0 t).mp h; omega) (fun h => by have := (hcond0_1 t).mp h; omega) ((hcond0_2 t).mpr h2) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) ((dats m 0 c).before 11 t d11) ((dats m 0 c).before 12 t d12) ((dats m 0 c).before 13 t d13) (q0 m c) (dl0 m c) (g0 m c) (lse0 m c) (dlt0 m c) (dps0 m c) (dos0 m c) (accLeft m c t.val) y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [H14 H15 H16 H17 H18 H19 H20 H21 H22 Hg]
  · isplitl [H14 H15 H16 H17 H18 H19 H20 H21 H22]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexists _; isplitr; swap; · iexact H22
      ipureintro; intro h; rw [show (t.val + 1) / 16 = t.val / 16 by omega, batchSum_eq m c t (by omega) y, coords_1, show t.val / 8 % 2 = 0 by omega, tileT_go m c t (by omega)]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (keeps_12 m c t h0 _); iexact H12
  iapply (keeps_13 m c t h0 _); iexact H13

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_A m c t h0
  by_cases h1 : t.val % 8 = 0
  · exact body_B m c t h0 h1
  by_cases h2 : t.val % 8 = 7
  · exact body_D m c t h0 h2
  exact body_C m c t h0 h1 h2

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [show (dats m 0 c).Φ 0 = Pipeline.ΦA spec0 c from by dsimp only [dats]; exact if_pos rfl]

theorem Phi_out (c : Dev nD) : (dats m 0 c).Φ (Fin.last cfg0.N) ⊢ Pipeline.ΦA spec0 c := by
  rw [show (dats m 0 c).Φ (Fin.last cfg0.N) = PhiB m c cfg0.N from by dsimp only [dats]; exact if_neg (by rw [show (Fin.last cfg0.N).val = cfg0.N from rfl, show cfg0.N = 160 from N_0]; decide), PhiA0_eq]
  unfold PhiB
  iintro ⟨⟨H0, H1, H2, H3, H4, H5, H6, H7, ⟨%y, -, H8⟩⟩, Hg⟩
  isplitl [H0 H1 H2 H3 H4 H5 H6 H7 H8]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  iexact Hg

set_option backward.isDefEq.respectTransparency.types false in
set_option maxHeartbeats 800000 in
/-- The launch: every run ends with the region's arrays as the proof data say, the rest as the host lines after the region make
    it, and every semaphore counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).1 0).trans (((dats m 0 c).arrAt_in 0 rfl _).trans ((A_eq m c 0).trans (V_main_arg2 m c))),
    ((h.1 c).2 main_arg3 (Pipeline.mem_restRefs_of main_arg3 (by decide) (by decide))).trans (W_main_arg3 m (dats m) c),
    ((h.1 c).1 1).trans (((dats m 0 c).arrAt_in 1 rfl _).trans ((A_eq m c 1).trans (V_main_arg4 m c))),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c)⟩, h.2⟩) (run_main m ρ)

end Cert.KernelIdeal.Gen

end
-- ==== Proof.Spec.lean ====
/- The mathematics both programs compute, over the extended reals, and the layout operations they read it through: the
   per-head quantisation of the incoming gradient, the softmax probabilities, and the gradients. -/
module

public import Idealize.ShloMosaic.Lib.Pipeline.Value
public import Idealize.ShloMosaic.Lib.ValueIdx
public import Idealize.ShloMosaic.Lib.ValueLayout
public import Idealize.ShloMosaic.Lib.MatmulPlain
public import Idealize.ShloMosaic.PureOps.Ideal.Laws
public import Idealize.ShloMosaic.PureOps

@[expose] public section

noncomputable section

namespace Cert.Spec

open Idealize.ShloMosaic Idealize.ShloMosaic.ValueIdx

/-! ## The arrays and the mathematics -/

/-- The eight argument arrays: queries, keys, key scales, values, value scales, forward output, log-sum-exp and incoming
    gradient. -/
structure Args where
  q : (⟨3, ![120, 10, 96]⟩ : Shape).Idx → EReal
  k : (⟨4, ![2, 65536, 10, 96]⟩ : Shape).Idx → EReal
  ks : (⟨2, ![2, 10]⟩ : Shape).Idx → EReal
  v : (⟨4, ![2, 65536, 10, 96]⟩ : Shape).Idx → EReal
  vs : (⟨2, ![2, 10]⟩ : Shape).Idx → EReal
  o : (⟨4, ![2, 120, 10, 96]⟩ : Shape).Idx → EReal
  lse : (⟨3, ![2, 10, 120]⟩ : Shape).Idx → EReal
  d : (⟨4, ![2, 120, 10, 96]⟩ : Shape).Idx → EReal

/-- The softmax scale, the smallest normal number, the two clipping bounds, the reciprocal of the largest code, and one over the
    natural logarithm of two. -/
def sm : EReal := Ideal.ofBits .f32 0x3DD105EC#32
def tiny : EReal := Ideal.ofBits .f32 0x00800000#32
def lo : EReal := Ideal.ofBits .f32 0xC7600000#32
def hi : EReal := Ideal.ofBits .f32 0x47600000#32
def inv57344 : EReal := Ideal.ofBits .f32 0x37924925#32
def one : EReal := Ideal.ofBits .f32 0x3F800000#32
def L : EReal := (((Real.log 2)⁻¹ : ℝ) : EReal)

namespace Args

variable (a : Args)

/-- The largest magnitude of the incoming gradient of a batch and head, over 57344. -/
def top (b : Fin 2) (h : Fin 10) : EReal :=
  (Finset.univ.sup fun l : Fin 120 => Finset.univ.sup fun e : Fin 96 => max (a.d (ix4 b l h e)) (-a.d (ix4 b l h e))) * inv57344
/-- The scale's exponent. -/
def ex (b : Fin 2) (h : Fin 10) : EReal := if a.top b h < tiny then 0 else Ideal.liftRound Int.floor (Ideal.log (a.top b h) * L) + one
/-- The power-of-two scale and its inverse. -/
def scale (b : Fin 2) (h : Fin 10) : EReal := Ideal.exp2 (a.ex b h)
def inv (b : Fin 2) (h : Fin 10) : EReal := Ideal.exp2 (0 - a.ex b h)
/-- The quantised incoming gradient. -/
def code (b : Fin 2) (h : Fin 10) (l : Fin 120) (e : Fin 96) : EReal := min hi (max lo (a.d (ix4 b l h e) * a.inv b h))
/-- The probabilities, the row offsets, and the score gradients. -/
def p (b : Fin 2) (h : Fin 10) (l : Fin 120) (n : Fin 65536) : EReal :=
  Ideal.exp ((sm * a.ks (ix2 b h)) * (∑ e : Fin 96, a.q (ix3 l h e) * a.k (ix4 b n h e)) - a.lse (ix3 b h l))
def delta (b : Fin 2) (h : Fin 10) (l : Fin 120) : EReal := ∑ e : Fin 96, (a.code b h l e * a.scale b h) * a.o (ix4 b l h e)
def ds (b : Fin 2) (h : Fin 10) (l : Fin 120) (n : Fin 65536) : EReal :=
  a.p b h l n * ((a.scale b h * a.vs (ix2 b h)) * (∑ e : Fin 96, a.code b h l e * a.v (ix4 b n h e)) - a.delta b h l)
/-- The gradients of the keys, of the values, and of the queries before and after the sum over batches. -/
def dk (b : Fin 2) (n : Fin 65536) (h : Fin 10) (e : Fin 96) : EReal := sm * ∑ l : Fin 120, a.ds b h l n * a.q (ix3 l h e)
def dv (b : Fin 2) (n : Fin 65536) (h : Fin 10) (e : Fin 96) : EReal := a.scale b h * ∑ l : Fin 120, a.p b h l n * a.code b h l e
def dqs (b : Fin 2) (l : Fin 120) (h : Fin 10) (e : Fin 96) : EReal :=
  (sm * a.ks (ix2 b h)) * ∑ n : Fin 65536, a.ds b h l n * a.k (ix4 b n h e)
def dq (l : Fin 120) (h : Fin 10) (e : Fin 96) : EReal := a.dqs 0 l h e + a.dqs 1 l h e

end Args

/-! ## Layout operations at an index -/

variable {α : Type}

/-- The row of batch `b` and head `h` where batch is the slow axis. -/
abbrev row (b : Fin 2) (h : Fin 10) : Fin 20 := ⟨b.val * 10 + h.val, by omega⟩

/-- Heads brought next to the batch and merged with it. -/
theorem heads_apply {n d : ℕ} (X : (⟨4, ![2, n, 10, d]⟩ : Shape).Idx → α) (ht : Shape.Transposes (⟨4, ![2, n, 10, d]⟩ : Shape) [0, 2, 1, 3] ⟨4, ![2, 10, n, d]⟩)
    (hc : (⟨4, ![2, 10, n, d]⟩ : Shape).ShapeCasts ⟨3, ![20, n, d]⟩) (b : Fin 2) (h : Fin 10) (l : Fin n) (e : Fin d) :
    shapeCast ⟨3, ![20, n, d]⟩ (transpose ⟨4, ![2, 10, n, d]⟩ [0, 2, 1, 3] X ht) hc (ix3 (row b h) l e) = X (ix4 b l h e) := by
  rw [shapeCast_apply _ _ _ (ix4 b h l e) (by rw [Shape.rowMajor_val_four, Shape.rowMajor_val_three]; rfl)]
  exact transpose_apply _ X ht _ _ (fun c => match c with | ⟨0, _⟩ => rfl | ⟨1, _⟩ => rfl | ⟨2, _⟩ => rfl | ⟨3, _⟩ => rfl)

/-- The same undone. -/
theorem unheads_apply {n d : ℕ} (Y : (⟨3, ![20, n, d]⟩ : Shape).Idx → α) (hc : (⟨3, ![20, n, d]⟩ : Shape).ShapeCasts ⟨4, ![2, 10, n, d]⟩)
    (ht : Shape.Transposes (⟨4, ![2, 10, n, d]⟩ : Shape) [0, 2, 1, 3] ⟨4, ![2, n, 10, d]⟩) (b : Fin 2) (h : Fin 10) (l : Fin n) (e : Fin d) :
    transpose ⟨4, ![2, n, 10, d]⟩ [0, 2, 1, 3] (shapeCast ⟨4, ![2, 10, n, d]⟩ Y hc) ht (ix4 b l h e) = Y (ix3 (row b h) l e) := by
  rw [transpose_apply _ _ ht _ (ix4 b h l e) (fun c => match c with | ⟨0, _⟩ => rfl | ⟨1, _⟩ => rfl | ⟨2, _⟩ => rfl | ⟨3, _⟩ => rfl)]
  exact shapeCast_apply _ _ _ _ (by rw [Shape.rowMajor_val_four, Shape.rowMajor_val_three]; rfl)

/-- A table of one number per batch and head as a column. -/
theorem table_apply (x : (⟨2, ![2, 10]⟩ : Shape).Idx → α) (hc : (⟨2, ![2, 10]⟩ : Shape).ShapeCasts ⟨3, ![20, 1, 1]⟩) (b : Fin 2) (h : Fin 10) :
    shapeCast ⟨3, ![20, 1, 1]⟩ x hc (ix3 (row b h) 0 0) = x (ix2 b h) :=
  shapeCast_apply _ _ _ _ (by rw [Shape.rowMajor_val_two, Shape.rowMajor_val_three]; show b.val * 10 + h.val = ((b.val * 10 + h.val) * 1 + 0) * 1 + 0; omega)
theorem untable_apply (x : (⟨3, ![20, 1, 1]⟩ : Shape).Idx → α) (hc : (⟨3, ![20, 1, 1]⟩ : Shape).ShapeCasts ⟨2, ![2, 10]⟩) (b : Fin 2) (h : Fin 10) :
    shapeCast ⟨2, ![2, 10]⟩ x hc (ix2 b h) = x (ix3 (row b h) 0 0) :=
  shapeCast_apply _ _ _ _ (by rw [Shape.rowMajor_val_two, Shape.rowMajor_val_three]; show ((b.val * 10 + h.val) * 1 + 0) * 1 + 0 = b.val * 10 + h.val; omega)
/-- A table of rows as a column of rows. -/
theorem rows_apply {n : ℕ} (x : (⟨3, ![2, 10, n]⟩ : Shape).Idx → α) (hc : (⟨3, ![2, 10, n]⟩ : Shape).ShapeCasts ⟨3, ![20, n, 1]⟩) (b : Fin 2) (h : Fin 10) (l : Fin n) :
    shapeCast ⟨3, ![20, n, 1]⟩ x hc (ix3 (row b h) l 0) = x (ix3 b h l) :=
  shapeCast_apply _ _ _ _ (by rw [Shape.rowMajor_val_three, Shape.rowMajor_val_three]; show (b.val * 10 + h.val) * n + l.val = ((b.val * 10 + h.val) * n + l.val) * 1 + 0; omega)
/-- A trailing unit axis added. -/
theorem addUnit_apply {m n : ℕ} (x : (⟨2, ![m, n]⟩ : Shape).Idx → α) (hc : (⟨2, ![m, n]⟩ : Shape).ShapeCasts ⟨3, ![m, n, 1]⟩) (i : Fin m) (l : Fin n) :
    shapeCast ⟨3, ![m, n, 1]⟩ x hc (ix3 i l 0) = x (ix2 i l) :=
  shapeCast_apply _ _ _ _ (by rw [Shape.rowMajor_val_two, Shape.rowMajor_val_three]; show i.val * n + l.val = (i.val * n + l.val) * 1 + 0; omega)

/-- One number per row spread over the row; one number per row and column spread over the last axis. -/
theorem spread1_apply {m n d : ℕ} (hm : m ≠ 1) (x : (⟨3, ![m, 1, 1]⟩ : Shape).Idx → α) (hb : (⟨3, ![m, 1, 1]⟩ : Shape).Broadcasts ⟨3, ![m, n, d]⟩) (i : Fin m) (l : Fin n) (e : Fin d) :
    broadcastTo ⟨3, ![m, n, d]⟩ x hb (ix3 i l e) = x (ix3 i 0 0) :=
  broadcastTo_apply _ hb _ _ fun ax => match ax with | ⟨0, _⟩ => (if_neg hm).symm | ⟨1, _⟩ => rfl | ⟨2, _⟩ => rfl
theorem spread2_apply {m n d : ℕ} (hm : m ≠ 1) (hn : n ≠ 1) (x : (⟨3, ![m, n, 1]⟩ : Shape).Idx → α) (hb : (⟨3, ![m, n, 1]⟩ : Shape).Broadcasts ⟨3, ![m, n, d]⟩) (i : Fin m) (l : Fin n) (e : Fin d) :
    broadcastTo ⟨3, ![m, n, d]⟩ x hb (ix3 i l e) = x (ix3 i l 0) :=
  broadcastTo_apply _ hb _ _ fun ax => match ax with | ⟨0, _⟩ => (if_neg hm).symm | ⟨1, _⟩ => (if_neg hn).symm | ⟨2, _⟩ => rfl

/-- The fold of the maximum from minus infinity is the supremum. -/
theorem fold_max {ι : Type} [Fintype ι] (f : ι → EReal) : (Finset.univ : Finset ι).fold max (Ideal.ofBits .f32 0xFF800000#32) f = Finset.univ.sup f := by
  rw [show Ideal.ofBits .f32 0xFF800000#32 = (⊥ : EReal) from by simp [Ideal.ofBits, Ideal.ieee]]; rfl

/-- A choice on a comparison is the `if`. -/
theorem select_olt (x y : EReal) (u v : α) : Scalar.select (Ideal.cmp .olt x y) u v = if x < y then u else v := by
  by_cases h : x < y <;> simp [Ideal.cmp, Scalar.select, h]

end Cert.Spec

end
-- ==== Proof.Quant.lean ====
/- The power of two that scales one head's incoming gradient: the largest power of two not above a number, found by
   counting the powers below it, is the one the floor of its logarithm gives. -/
module

public import proofs.«01_k».proof.Proof.Spec
public import Idealize.ShloMosaic.Lib.IdealHost
public import Mathlib.Analysis.SpecialFunctions.Log.Basic
public import Mathlib.Analysis.SpecialFunctions.Pow.Real

@[expose] public section

noncomputable section

namespace Cert.Spec

open Idealize.ShloMosaic Idealize.ShloMosaic.ValueIdx

/-! ## The numbers whose bit pattern is an exponent field alone -/

/-- The number of exponent field `k` and no other bit. -/
def pw (k : ℕ) : EReal := Ideal.ofBits .f32 (BitVec.ofNat 32 k <<< 23)

theorem pw_sign (k : Fin 256) : ((BitVec.ofNat 32 k.val <<< 23).extractLsb' 31 1 == 1#1) = decide (256 ≤ k.val) := by
  revert k; decide

theorem pw_exponent (k : Fin 256) : ((BitVec.ofNat 32 k.val <<< 23).extractLsb' 23 8).toNat = k.val := by
  revert k; decide

theorem pw_fraction (k : Fin 256) : ((BitVec.ofNat 32 k.val <<< 23).extractLsb' 0 23).toNat = 0 := by
  revert k; decide

/-- Field zero is zero. -/
theorem pw_zero : pw 0 = 0 := Ideal.ofBits_zero_f32

/-- A field between is that power of two. -/
theorem pw_mid (k : ℕ) (h1 : 1 ≤ k) (h2 : k ≤ 254) : pw k = (((2 : ℝ) ^ ((k : ℤ) - 127) : ℝ) : EReal) := by
  have hs := pw_sign ⟨k, by omega⟩
  have he := pw_exponent ⟨k, by omega⟩
  have hf := pw_fraction ⟨k, by omega⟩
  dsimp only at hs he hf
  rw [decide_eq_false (by omega)] at hs
  show Ideal.ieee 8 23 (BitVec.ofNat 32 k <<< 23) = _
  unfold Ideal.ieee
  simp only [he, hf, Nat.reduceAdd, hs]
  rw [if_neg (by omega), if_neg (by omega)]
  have e : (2 : ℝ) ^ ((k : ℤ) - 127) = 8388608 * 2 ^ ((k : ℤ) - (2 ^ (8 - 1) - 1) - (23 : ℕ)) := by
    rw [show (8388608 : ℝ) = 2 ^ (23 : ℤ) by norm_num, ← zpow_add₀ (by norm_num : (2 : ℝ) ≠ 0)]
    exact congrArg (fun z : ℤ => (2 : ℝ) ^ z) (by norm_num)
  rw [e]
  generalize (2 : ℝ) ^ ((k : ℤ) - (2 ^ (8 - 1) - 1) - (23 : ℕ)) = r
  norm_num

/-- The last field is infinity. -/
theorem pw_last : pw 255 = ⊤ := by
  have hs := pw_sign ⟨255, by omega⟩
  have he := pw_exponent ⟨255, by omega⟩
  have hf := pw_fraction ⟨255, by omega⟩
  dsimp only at hs he hf
  rw [decide_eq_false (by omega)] at hs
  show Ideal.ieee 8 23 (BitVec.ofNat 32 255 <<< 23) = _
  unfold Ideal.ieee
  simp only [he, hf, Nat.reduceAdd, hs]
  norm_num

/-! ## The exponent -/

/-- The exponent of the scale of a largest magnitude over 57344. -/
def exOf (y : EReal) : EReal := if y < tiny then 0 else Ideal.liftRound Int.floor (Ideal.log y * L) + one

theorem tiny_eq : tiny = pw 1 := rfl
theorem one_eq : one = 1 := Ideal.ofBits_one_f32

theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

/-- Counting the powers of two up to a number gives the field of the largest, whose successor's field is the scale's
    exponent and its reflection the inverse's. -/
theorem quant (t : ℝ) (h0 : 0 ≤ t) (h1 : t < 2 ^ (113 : ℤ)) : ∃ k : ℕ, k ≤ 240 ∧ (∀ j, j < 256 → (pw j ≤ (t : EReal) ↔ j ≤ k))
    ∧ pw (if k = 0 then 127 else k + 1) = Ideal.exp2 (exOf t) ∧ pw (if k = 0 then 127 else 253 - k) = Ideal.exp2 (0 - exOf t) := by
  have two : (1 : ℝ) < 2 := by norm_num
  have hpt : ∀ j, 1 ≤ j → j ≤ 254 → (pw j ≤ (t : EReal) ↔ (2 : ℝ) ^ ((j : ℤ) - 127) ≤ t) := fun j a b => by
    rw [pw_mid j a b, EReal.coe_le_coe_iff]
  have hlast : ¬ pw 255 ≤ (t : EReal) := by rw [pw_last]; exact not_le.2 (EReal.coe_lt_top t)
  have hzero : pw 0 ≤ (t : EReal) := by rw [pw_zero]; exact EReal.coe_nonneg.2 h0
  by_cases ht : t < 2 ^ (-126 : ℤ)
  · refine ⟨0, by omega, fun j hj => ?_, ?_, ?_⟩
    · rcases Nat.eq_zero_or_pos j with rfl | hp
      · exact ⟨fun _ => le_rfl, fun _ => hzero⟩
      · refine ⟨fun h => absurd h ?_, fun h => by omega⟩
        rcases Nat.lt_or_ge j 255 with hj' | hj'
        · rw [hpt j hp (by omega), not_le]
          exact ht.trans_le (zpow_le_zpow_right₀ two.le (by omega))
        · rw [show j = 255 by omega]; exact hlast
    all_goals
      have he : exOf t = 0 := by
        unfold exOf
        rw [if_pos (by rw [tiny_eq, pw_mid 1 le_rfl (by omega), EReal.coe_lt_coe_iff]; exact ht)]
      rw [he, if_pos rfl, pw_mid 127 (by omega) (by omega)]
      have := exp2_int 0
      simp at this ⊢
      exact this.symm
  · have ht := not_lt.1 ht
    have hp : 0 < t := lt_of_lt_of_le (by positivity) ht
    have hlog2 : 0 < Real.log 2 := Real.log_pos two
    have hpos : ∀ i : ℤ, (0 : ℝ) < 2 ^ i := fun i => by positivity
    generalize hn : ⌊Real.log t * (Real.log 2)⁻¹⌋ = n
    have hfl := Int.floor_eq_iff.1 hn
    rw [← div_eq_mul_inv, le_div_iff₀ hlog2, div_lt_iff₀ hlog2] at hfl
    have hlo : (2 : ℝ) ^ n ≤ t := (Real.log_le_log_iff (hpos n) hp).1 (by rw [Real.log_zpow]; exact hfl.1)
    have hhi : t < (2 : ℝ) ^ (n + 1) := (Real.log_lt_log_iff hp (hpos (n + 1))).1 (by rw [Real.log_zpow]; push_cast; exact hfl.2)
    have n0 : -126 ≤ n := by
      have := (zpow_lt_zpow_iff_right₀ two).1 (ht.trans_lt hhi)
      omega
    have n1 : n ≤ 112 := by
      have := (zpow_lt_zpow_iff_right₀ two).1 (hlo.trans_lt h1)
      omega
    have he : exOf t = (((n + 1 : ℤ) : ℝ) : EReal) := by
      unfold exOf
      rw [if_neg (by rw [tiny_eq, pw_mid 1 le_rfl (by omega), EReal.coe_lt_coe_iff, not_lt]; exact ht), one_eq]
      have hl : Ideal.log (t : EReal) = ((Real.log t : ℝ) : EReal) := if_neg (not_le.2 hp)
      rw [hl]
      unfold L
      rw [← EReal.coe_mul]
      show (((⌊Real.log t * (Real.log 2)⁻¹⌋ : ℤ) : ℝ) : EReal) + 1 = _
      rw [hn]; push_cast; rfl
    refine ⟨(n + 127).toNat, by omega, fun j hj => ?_, ?_, ?_⟩
    · rcases Nat.eq_zero_or_pos j with rfl | hjp
      · exact ⟨fun _ => Nat.zero_le _, fun _ => hzero⟩
      rcases Nat.lt_or_ge j 255 with hj' | hj'
      · rw [hpt j hjp (by omega)]
        constructor
        · intro h
          have := (zpow_lt_zpow_iff_right₀ two).1 (h.trans_lt hhi)
          omega
        · intro h
          exact (zpow_le_zpow_right₀ two.le (by omega)).trans hlo
      · rw [show j = 255 by omega]
        exact ⟨fun h => absurd h hlast, fun h => by omega⟩
    · rw [if_neg (by omega), he, exp2_int, pw_mid _ (by omega) (by omega)]
      congr 2; omega
    · rw [if_neg (by omega), he, show (0 : EReal) - (((n + 1 : ℤ) : ℝ) : EReal) = (((-(n + 1) : ℤ) : ℝ) : EReal) by push_cast; rw [zero_sub],
        exp2_int, pw_mid _ (by omega) (by omega)]
      congr 2; omega

/-! ## The largest magnitude -/

/-- The largest number of the incoming gradient's format. -/
def big : EReal := Ideal.ofBits .f32 0x7F7F0000#32

theorem big_eq : big = ((16711680 * 2 ^ (104 : ℕ) : ℝ) : EReal) := by
  have hs : ((0x7F7F0000#32 : BitVec 32).extractLsb' 31 1 == 1#1) = false := by decide
  have he : ((0x7F7F0000#32 : BitVec 32).extractLsb' 23 8).toNat = 254 := by decide
  have hf : ((0x7F7F0000#32 : BitVec 32).extractLsb' 0 23).toNat = 8323072 := by decide
  show Ideal.ieee 8 23 0x7F7F0000#32 = _
  unfold Ideal.ieee
  simp only [he, hf, Nat.reduceAdd, hs]
  norm_num

theorem inv57344_eq : inv57344 = ((9586981 / 2 ^ (39 : ℕ) : ℝ) : EReal) := by
  have hs : ((0x37924925#32 : BitVec 32).extractLsb' 31 1 == 1#1) = false := by decide
  have he : ((0x37924925#32 : BitVec 32).extractLsb' 23 8).toNat = 111 := by decide
  have hf : ((0x37924925#32 : BitVec 32).extractLsb' 0 23).toNat = 1198373 := by decide
  show Ideal.ieee 8 23 0x37924925#32 = _
  unfold Ideal.ieee
  simp only [he, hf, Nat.reduceAdd, hs]
  norm_num

theorem abs_nonneg' (x : EReal) : 0 ≤ max x (-x) := by
  rcases le_total 0 x with h | h
  · exact le_max_of_le_left h
  · exact le_max_of_le_right (by simpa using EReal.neg_le_neg_iff.2 h)

/-- Every element of the incoming gradient is a finite number of its format. -/
def Args.Bounded (a : Args) : Prop := ∀ i, max (a.d i) (-a.d i) ≤ big

/-- Then the largest magnitude over 57344 is a number between zero and `2 ^ 113`. -/
theorem Args.Bounded.top {a : Args} (ha : a.Bounded) (b : Fin 2) (h : Fin 10) :
    ∃ t : ℝ, 0 ≤ t ∧ t < 2 ^ (113 : ℤ) ∧ a.top b h = (t : EReal) := by
  unfold Args.top
  generalize hM : (Finset.univ.sup fun l : Fin 120 => Finset.univ.sup fun e : Fin 96 => max (a.d (ix4 b l h e)) (-a.d (ix4 b l h e))) = M
  have hi : M ≤ big := by rw [← hM]; exact Finset.sup_le fun l _ => Finset.sup_le fun e _ => ha _
  have hlo : 0 ≤ M := by
    rw [← hM]
    refine le_trans ?_ (Finset.le_sup (f := fun l : Fin 120 => Finset.univ.sup fun e : Fin 96 => max (a.d (ix4 b l h e)) (-a.d (ix4 b l h e))) (Finset.mem_univ 0))
    exact le_trans (abs_nonneg' _) (Finset.le_sup (f := fun e : Fin 96 => max (a.d (ix4 b 0 h e)) (-a.d (ix4 b 0 h e))) (Finset.mem_univ 0))
  rw [big_eq] at hi
  induction M with
  | bot => exact absurd hlo (by simp)
  | top => exact absurd hi (not_le.2 (EReal.coe_lt_top _))
  | coe s =>
    have h0 : 0 ≤ s := EReal.coe_nonneg.1 hlo
    have h1 : s ≤ 16711680 * 2 ^ (104 : ℕ) := EReal.coe_le_coe_iff.1 hi
    refine ⟨s * (9586981 / 2 ^ (39 : ℕ)), by positivity, ?_, ?_⟩
    · calc s * (9586981 / 2 ^ (39 : ℕ)) ≤ (16711680 * 2 ^ (104 : ℕ)) * (9586981 / 2 ^ (39 : ℕ)) := mul_le_mul_of_nonneg_right h1 (by positivity)
        _ < 2 ^ (113 : ℤ) := by norm_num
    · rw [inv57344_eq, ← EReal.coe_mul]

/-! ## Powers of two and of e -/

/-- The exponential of a scaled score less an offset, both times `1 / log 2`, to base two. -/
theorem exp2_score (c s l : EReal) : Ideal.exp2 ((c * L) * s - l * L) = Ideal.exp (c * s - l) := by
  have hL : (0 : ℝ) < (Real.log 2)⁻¹ := inv_pos.2 (Real.log_pos (by norm_num))
  have h1 : (c * L) * s - l * L = (c * s - l) * L := by
    unfold L
    rw [sub_eq_add_neg, sub_eq_add_neg, EReal.right_distrib_of_nonneg_of_ne_top (EReal.coe_nonneg.2 hL.le) (EReal.coe_ne_top _), EReal.neg_mul,
      mul_right_comm]
  rw [h1]
  generalize c * s - l = z
  unfold L
  induction z with
  | bot => rw [EReal.bot_mul_coe_of_pos hL]; rfl
  | top => rw [EReal.top_mul_coe_of_pos hL]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

end Cert.Spec

end
-- ==== Proof.PrepValue.lean ====
/- The arrays the kernel prepares at its first grid point, entry by entry, at the ideal numbers. -/
module

public import proofs.«01_k».proof.Proof.KernelIdealPrep
public import proofs.«01_k».proof.Proof.Quant
public import Idealize.ShloMosaic.Lib.WordSum

@[expose] public section

noncomputable section

namespace Cert.KernelIdeal.Gen

open Cert.KernelIdeal Idealize.ShloMosaic Idealize.ShloMosaic.ValueIdx Cert.Spec

variable (a : Args)

/-! ## The transposed arguments the kernel reads -/

def tq : Vec Ideal S10x96x120 .bf16 := fun y => a.q (ix3 (y 2) (y 0) (y 1))
def td : Vec Ideal S2x10x96x120 .bf16 := fun y => a.d (ix4 (y 0) (y 3) (y 1) (y 2))
def tO : Vec Ideal S2x10x96x120 .bf16 := fun y => a.o (ix4 (y 0) (y 3) (y 1) (y 2))
def tl : Vec Ideal S10x2x120 .f32 := fun y => a.lse (ix3 (y 1) (y 0) (y 2))
def tk : Vec Ideal S2x10x96x65536 .fp8e4m3 := fun y => a.k (ix4 (y 0) (y 3) (y 1) (y 2))
def tv : Vec Ideal S2x10x96x65536 .fp8e4m3 := fun y => a.v (ix4 (y 0) (y 3) (y 1) (y 2))

/-! ## Layout -/

theorem cast4_apply {α : Type} {m n : ℕ} (x : (⟨4, ![1, 1, m, n]⟩ : Shape).Idx → α) (hc : (⟨4, ![1, 1, m, n]⟩ : Shape).ShapeCasts ⟨2, ![m, n]⟩) (i : Fin m) (j : Fin n) :
    shapeCast ⟨2, ![m, n]⟩ x hc (ix2 i j) = x (ix4 0 0 i j) :=
  shapeCast_apply _ _ _ _ (by rw [Shape.rowMajor_val_two, Shape.rowMajor_val_four]; show ((0 * 1 + 0) * m + i.val) * n + j.val = i.val * n + j.val; simp)
theorem uncast4_apply {α : Type} {m n : ℕ} (x : (⟨2, ![m, n]⟩ : Shape).Idx → α) (hc : (⟨2, ![m, n]⟩ : Shape).ShapeCasts ⟨4, ![1, 1, m, n]⟩) (i : Fin m) (j : Fin n) :
    shapeCast ⟨4, ![1, 1, m, n]⟩ x hc (ix4 0 0 i j) = x (ix2 i j) :=
  shapeCast_apply _ _ _ _ (by rw [Shape.rowMajor_val_two, Shape.rowMajor_val_four]; show i.val * n + j.val = ((0 * 1 + 0) * m + i.val) * n + j.val; simp)
theorem spread11_apply {α : Type} {m n : ℕ} (x : (⟨2, ![1, 1]⟩ : Shape).Idx → α) (hb : (⟨2, ![1, 1]⟩ : Shape).Broadcasts ⟨2, ![m, n]⟩) (i : Fin m) (j : Fin n) :
    broadcastTo ⟨2, ![m, n]⟩ x hb (ix2 i j) = x (ix2 0 0) :=
  broadcastTo_apply _ hb _ _ fun ax => match ax with | ⟨0, _⟩ => rfl | ⟨1, _⟩ => rfl
theorem cast_self_apply {α : Type} {s : Shape} (x : s.Idx → α) (hc : s.ShapeCasts s) (i : s.Idx) : shapeCast s x hc i = x i :=
  shapeCast_apply _ _ _ _ rfl

/-! ## Reductions -/

theorem lift_rows (h : S96x120.Reduces [0] S120) (l : Fin 120) (e : Fin 96) : h.lift (ix1 l) e = ix2 e l := by
  funext a
  match a with
  | ⟨0, _⟩ => rfl
  | ⟨1, _⟩ => rfl
theorem lift_cols (h : S1x120.Reduces [1] S1) (l : Fin 120) : h.lift (ix1 0) l = ix2 0 l := by
  funext a
  match a with
  | ⟨0, _⟩ => rfl
  | ⟨1, _⟩ => rfl
theorem max_rows (X : FVec Ideal S96x120 .f32) (hφ : FKind.Formats .f32) (hacc : (0xFF800000#32 : BitVec 32) = FKind.maximumf.neutral .f32 hφ) (l : Fin 120) :
    multiReduction .maximumf [0] S120 X 0xFF800000#32 reduces_S96x120_S120 hφ hacc (ix1 l) = Finset.univ.sup fun e : Fin 96 => X (ix2 e l) :=
  (Ideal.multiReduction_maximumf_single _ _ _ _ _ _).trans ((fold_max _).trans (Finset.sup_congr rfl fun e _ => congrArg X (lift_rows _ l e)))
theorem max_cols (X : FVec Ideal S1x120 .f32) (hφ : FKind.Formats .f32) (hacc : (0xFF800000#32 : BitVec 32) = FKind.maximumf.neutral .f32 hφ) :
    multiReduction .maximumf [1] S1 X 0xFF800000#32 reduces_S1x120_S1 hφ hacc (ix1 0) = Finset.univ.sup fun l : Fin 120 => X (ix2 0 l) :=
  (Ideal.multiReduction_maximumf_single _ _ _ _ _ _).trans ((fold_max _).trans (Finset.sup_congr rfl fun l _ => congrArg X (lift_cols _ l)))
theorem sum_rows (X : FVec Ideal S96x120 .f32) (hφ : FKind.Formats .f32) (hacc : (0x00000000#32 : BitVec 32) = FKind.add.neutral .f32 hφ) (l : Fin 120) :
    multiReduction .add [0] S120 X 0x00000000#32 reduces_S96x120_S120 hφ hacc (ix1 l) = ∑ e : Fin 96, X (ix2 e l) :=
  (Ideal.multiReduction_add_single _ _ _ _ _ _).trans (Finset.sum_congr rfl fun e _ => congrArg X (lift_rows _ l e))

/-! ## The scale of one block -/

theorem dAt_apply (i : Fin 20) (e : Fin 96) (l : Fin 120) : dAt (td a) i (ix4 0 0 e l) = a.d (ix4 (bt i) l (hd i) e) := by
  refine congrArg a.d (funext fun c => Fin.ext ?_)
  match c with
  | ⟨0, _⟩ => show i.val % 2 + 1 * 0 = i.val % 2; omega
  | ⟨1, _⟩ => show 0 + 1 * l.val = l.val; omega
  | ⟨2, _⟩ => show i.val / 2 + 1 * 0 = i.val / 2; omega
  | ⟨3, _⟩ => show 0 + 1 * e.val = e.val; omega
theorem oAt_apply (i : Fin 20) (e : Fin 96) (l : Fin 120) : dAt (tO a) i (ix4 0 0 e l) = a.o (ix4 (bt i) l (hd i) e) := by
  refine congrArg a.o (funext fun c => Fin.ext ?_)
  match c with
  | ⟨0, _⟩ => show i.val % 2 + 1 * 0 = i.val % 2; omega
  | ⟨1, _⟩ => show 0 + 1 * l.val = l.val; omega
  | ⟨2, _⟩ => show i.val / 2 + 1 * 0 = i.val / 2; omega
  | ⟨3, _⟩ => show 0 + 1 * e.val = e.val; omega
theorem qAt_apply (h : Fin 10) (e : Fin 96) (l : Fin 120) : qAt (tq a) h (ix3 0 e l) = a.q (ix3 l h e) := by
  refine congrArg a.q (funext fun c => Fin.ext ?_)
  match c with
  | ⟨0, _⟩ => show 0 + 1 * l.val = l.val; omega
  | ⟨1, _⟩ => show h.val + 1 * 0 = h.val; omega
  | ⟨2, _⟩ => show 0 + 1 * e.val = e.val; omega
theorem lAt_apply (i : Fin 20) (l : Fin 120) : lAt (tl a) i (ix3 0 0 l) = a.lse (ix3 (bt i) (hd i) l) := by
  refine congrArg a.lse (funext fun c => Fin.ext ?_)
  match c with
  | ⟨0, _⟩ => show i.val % 2 + 1 * 0 = i.val % 2; omega
  | ⟨1, _⟩ => show i.val / 2 + 1 * 0 = i.val / 2; omega
  | ⟨2, _⟩ => show 0 + 1 * l.val = l.val; omega
theorem sAt_apply (x : Vec Ideal S2x10 .f32) (i : Fin 20) : sAt x i = x (ix2 (bt i) (hd i)) := by
  refine congrArg x (funext fun c => Fin.ext ?_)
  match c with
  | ⟨0, _⟩ => rfl
  | ⟨1, _⟩ => rfl

theorem pay5_apply (i : Fin 20) (e : Fin 96) (l : Fin 120) : k0_pay5 (F := Ideal) (dAt (td a) i) (ix2 e l) = a.d (ix4 (bt i) l (hd i) e) :=
  (cast4_apply (dAt (td a) i) shapeCasts_S1x1x96x120_S96x120 e l).trans (dAt_apply a i e l)

/-- The largest magnitude of a block, over 57344. -/
def yOf (i : Fin 20) : FVec Ideal S1x1 .f32 :=
  mulf (shapeCast S1x1 (multiReduction .maximumf [1] S1 (shapeCast S1x120 (multiReduction .maximumf [0] S120 (absf (k0_pay5 (F := Ideal) (dAt (td a) i))) 0xFF800000#32 reduces_S96x120_S120 (.inl rfl) rfl) shapeCasts_S120_S1x120) 0xFF800000#32 reduces_S1x120_S1 (.inl rfl) rfl) shapeCasts_S1_S1x1)
    (broadcast S1x1 (Scalar.ofBits (F := Ideal) .f32 0x37924925#32))

theorem yOf_apply (i : Fin 20) : yOf a i (ix2 0 0) = a.top (bt i) (hd i) := by
  unfold yOf Args.top
  refine congrArg (fun x : EReal => x * inv57344) ?_
  refine (shapeCast_a_1a_apply _ shapeCasts_S1_S1x1 0 0).trans ((max_cols _ _ _).trans (Finset.sup_congr rfl fun l _ =>
    (shapeCast_a_1a_apply _ shapeCasts_S120_S1x120 0 l).trans ((max_rows _ _ _ l).trans (Finset.sup_congr rfl fun e _ => ?_))))
  show max (k0_pay5 (F := Ideal) (dAt (td a) i) (ix2 e l)) (-(k0_pay5 (F := Ideal) (dAt (td a) i) (ix2 e l))) = _
  rw [pay5_apply]

theorem shli_eq (x : BitVec 32) : IntOp.shli .vector x 23#32 = x <<< 23 := by
  unfold IntOp.shli
  rw [if_pos (by decide)]
  rfl

/-- Counting. -/
theorem count_le (k : ℕ) (hk : k ≤ 240) : (∑ j : Fin 256, if j.val ≤ k then 1 else 0) = k + 1 := by
  rw [Fin.sum_univ_eq_sum_range (fun j => if j ≤ k then 1 else 0) 256, Finset.sum_boole]
  have : (Finset.range 256).filter (fun j => j ≤ k) = Finset.range (k + 1) := by
    ext j; simp only [Finset.mem_filter, Finset.mem_range]; omega
  rw [this, Finset.card_range]; rfl

theorem select_oge (x y : EReal) : (Scalar.select (Ideal.cmp .oge x y) 1#32 0#32).toNat = if y ≤ x then 1 else 0 := by
  by_cases h : y ≤ x <;> simp [Ideal.cmp, Scalar.select, h]

/-- The number of powers of two not above the largest magnitude, less one. -/
theorem pay6_apply (i : Fin 20) (k : ℕ) (hk : k ≤ 240) (t : EReal) (ht : a.top (bt i) (hd i) = t) (hp : ∀ j, j < 256 → (pw j ≤ t ↔ j ≤ k)) :
    k0_pay6 (F := Ideal) (dAt (td a) i) (ix2 0 0) = BitVec.ofNat 32 k := by
  unfold k0_pay6
  show (IntOp.subi (shapeCast S1x1 (multiReductionI .add [0] S1
    (select (cmpf (F := Ideal) .oge (broadcastTo S256x1 (yOf a i) broadcasts_S1x1_S256x1) (bitcastToFloat .f32 (shli (iota .tc S256x1 32 [0] iota_S256x1_d0_w32) (broadcast S256x1 23#32))))
      (broadcast S256x1 1#32) (broadcast S256x1 0#32)) 0#32 reduces_S256x1_S1 rfl) shapeCasts_S1_S1x1 (ix2 0 0)) 1#32 : BitVec 32) = _
  rw [shapeCast_a_1a_apply _ shapeCasts_S1_S1x1 0 0]
  have hel : ∀ r : Fin 256, (select (cmpf (F := Ideal) .oge (broadcastTo S256x1 (yOf a i) broadcasts_S1x1_S256x1) (bitcastToFloat .f32 (shli (iota .tc S256x1 32 [0] iota_S256x1_d0_w32) (broadcast S256x1 23#32))))
      (broadcast S256x1 1#32) (broadcast S256x1 0#32) (ix2 r 0)).toNat = if r.val ≤ k then 1 else 0 := fun r => by
    show (Scalar.select (Ideal.cmp .oge (broadcastTo S256x1 (yOf a i) broadcasts_S1x1_S256x1 (ix2 r 0)) (Ideal.ofBits .f32 (IntOp.shli .vector (BitVec.ofNat 32 (0 * 256 + r.val)) 23#32))) 1#32 0#32).toNat = _
    rw [spread11_apply, yOf_apply, shli_eq, select_oge, ht, Nat.zero_mul, Nat.zero_add]
    exact if_congr (hp r.val r.isLt) rfl rfl
  have hsum : (∑ j ∈ Finset.univ.filter (fun j => reduces_S256x1_S1.drop j = ix1 0), (select (cmpf (F := Ideal) .oge (broadcastTo S256x1 (yOf a i) broadcasts_S1x1_S256x1) (bitcastToFloat .f32 (shli (iota .tc S256x1 32 [0] iota_S256x1_d0_w32) (broadcast S256x1 23#32))))
      (broadcast S256x1 1#32) (broadcast S256x1 0#32) j).toNat) = k + 1 := by
    rw [Finset.filter_true_of_mem (fun j _ => (eq_ix1 _).trans (congrArg ix1 (Subsingleton.elim (α := Fin 1) _ _))), sum_idx2, ← count_le k hk]
    refine Finset.sum_congr rfl fun r _ => ?_
    rw [Fin.sum_univ_one]
    exact hel r
  have hw := WordSum.toNat_multiReductionI_add _ reduces_S256x1_S1 rfl (ix1 0) (by rw [hsum]; omega)
  rw [hsum] at hw
  apply BitVec.eq_of_toNat_eq
  show (_ - 1#32 : BitVec 32).toNat = _
  rw [BitVec.toNat_sub, hw]
  simp only [BitVec.toNat_ofNat]
  omega

theorem word_scale : ∀ k : Fin 241, IntOp.addi (Scalar.select (IntOp.cmpi .eq (BitVec.ofNat 32 k.val) 0#32) 0#32 (IntOp.subi (BitVec.ofNat 32 k.val) 126#32)) 127#32
    = BitVec.ofNat 32 (if k.val = 0 then 127 else k.val + 1) := by decide
theorem word_inv : ∀ k : Fin 241, IntOp.subi 127#32 (Scalar.select (IntOp.cmpi .eq (BitVec.ofNat 32 k.val) 0#32) 0#32 (IntOp.subi (BitVec.ofNat 32 k.val) 126#32))
    = BitVec.ofNat 32 (if k.val = 0 then 127 else 253 - k.val) := by decide

variable {a}

/-- The kernel's scale of a block is the power of two of the specification, and so is its inverse. -/
theorem scale_inv (ha : a.Bounded) (i : Fin 20) :
    k0_pay9 (F := Ideal) (k0_pay6 (dAt (td a) i)) (k0_pay7 (dAt (td a) i)) 126#32 (ix2 0 0) = a.scale (bt i) (hd i)
    ∧ Ideal.ofBits .f32 (IntOp.shli .vector (IntOp.subi 127#32 (k0_pay8 (k0_pay6 (F := Ideal) (dAt (td a) i)) (k0_pay7 (dAt (td a) i)) 126#32 (ix2 0 0))) 23#32) = a.inv (bt i) (hd i) := by
  obtain ⟨t, h0, h1, ht⟩ := ha.top (bt i) (hd i)
  obtain ⟨k, hk, hp, hs, hi⟩ := quant t h0 h1
  have h6 := pay6_apply a i k hk t ht hp
  have h8 : k0_pay8 (k0_pay6 (F := Ideal) (dAt (td a) i)) (k0_pay7 (dAt (td a) i)) 126#32 (ix2 0 0)
      = Scalar.select (IntOp.cmpi .eq (BitVec.ofNat 32 k) 0#32) 0#32 (IntOp.subi (BitVec.ofNat 32 k) 126#32) := by
    unfold k0_pay8 k0_pay7
    show Scalar.select (IntOp.cmpi .eq (k0_pay6 (F := Ideal) (dAt (td a) i) (ix2 0 0)) 0#32) 0#32 (IntOp.subi (k0_pay6 (F := Ideal) (dAt (td a) i) (ix2 0 0)) 126#32) = _
    rw [h6]
  constructor
  · unfold k0_pay9
    show Ideal.ofBits .f32 (IntOp.shli .vector (IntOp.addi (k0_pay8 (k0_pay6 (F := Ideal) (dAt (td a) i)) (k0_pay7 (dAt (td a) i)) 126#32 (ix2 0 0)) 127#32) 23#32) = _
    rw [h8, word_scale ⟨k, by omega⟩, shli_eq]
    exact hs.trans (by rw [← ht]; rfl)
  · rw [h8, word_inv ⟨k, by omega⟩, shli_eq]
    exact hi.trans (by rw [← ht]; rfl)

theorem headScale_apply (ha : a.Bounded) (i : Fin 20) : headScale (F := Ideal) (dAt (td a) i) (ix2 0 0) = a.scale (bt i) (hd i) := (scale_inv ha i).1

theorem codes_apply (ha : a.Bounded) (i : Fin 20) (e : Fin 96) (l : Fin 120) :
    k0_pay10 (F := Ideal) (k0_pay5 (dAt (td a) i)) (k0_pay6 (dAt (td a) i)) (k0_pay7 (dAt (td a) i)) 126#32 (ix2 e l) = a.code (bt i) (hd i) l e := by
  unfold k0_pay10
  show min hi (max lo (k0_pay5 (F := Ideal) (dAt (td a) i) (ix2 e l) * broadcastTo S96x120 _ broadcasts_S1x1_S96x120 (ix2 e l))) = _
  rw [pay5_apply, spread11_apply]
  show min hi (max lo (_ * Ideal.ofBits .f32 (IntOp.shli .vector (IntOp.subi 127#32 (k0_pay8 (k0_pay6 (F := Ideal) (dAt (td a) i)) (k0_pay7 (dAt (td a) i)) 126#32 (ix2 0 0))) 23#32))) = _
  rw [(scale_inv ha i).2]
  rfl

end Cert.KernelIdeal.Gen

end
-- ==== Proof.PrepRows.lean ====
/- The rows of the prepared arrays and the table of scales, entry by entry, at the ideal numbers. -/
module

public import proofs.«01_k».proof.Proof.PrepValue

@[expose] public section

noncomputable section

namespace Cert.KernelIdeal.Gen

open Cert.KernelIdeal Idealize.ShloMosaic Idealize.ShloMosaic.ValueIdx Cert.Spec

/-! ## Stacking -/

section
variable {α : Type}

theorem stack_top {m₁ m₂ m n : ℕ} (x : (⟨2, ![m₁, n]⟩ : Shape).Idx → α) (y : (⟨2, ![m₂, n]⟩ : Shape).Idx → α)
    (h : Shape.Concatenates [(⟨2, ![m₁, n]⟩ : Shape), ⟨2, ![m₂, n]⟩] ⟨2, ![m, n]⟩ 0) (r : Fin m) (c : Fin n) (i : Fin m₁) (hi : i.val = r.val) :
    concatenate ⟨2, ![m, n]⟩ 0 [⟨⟨2, ![m₁, n]⟩, x⟩, ⟨⟨2, ![m₂, n]⟩, y⟩] h (ix2 r c) = x (ix2 i c) :=
  concatenate_pair_apply_left (t := ⟨2, ![m, n]⟩) (s₁ := ⟨2, ![m₁, n]⟩) (s₂ := ⟨2, ![m₂, n]⟩) 0 x y h (ix2 r c) rfl (ix2 i c)
    fun b => match b with | ⟨0, _⟩ => hi | ⟨1, _⟩ => rfl
theorem stack_bottom {m₁ m₂ m n : ℕ} (x : (⟨2, ![m₁, n]⟩ : Shape).Idx → α) (y : (⟨2, ![m₂, n]⟩ : Shape).Idx → α)
    (h : Shape.Concatenates [(⟨2, ![m₁, n]⟩ : Shape), ⟨2, ![m₂, n]⟩] ⟨2, ![m, n]⟩ 0) (r : Fin m) (c : Fin n) (i : Fin m₂) (hi : i.val + m₁ = r.val) :
    concatenate ⟨2, ![m, n]⟩ 0 [⟨⟨2, ![m₁, n]⟩, x⟩, ⟨⟨2, ![m₂, n]⟩, y⟩] h (ix2 r c) = y (ix2 i c) :=
  concatenate_pair_apply_right (t := ⟨2, ![m, n]⟩) (s₁ := ⟨2, ![m₁, n]⟩) (s₂ := ⟨2, ![m₂, n]⟩) 0 x y h (ix2 r c) rfl rfl (ix2 i c)
    (fun b => match b with | ⟨0, _⟩ => fun hn => absurd rfl hn | ⟨1, _⟩ => fun _ => rfl) hi
theorem beside_left {n₁ n₂ m n : ℕ} (x : (⟨2, ![m, n₁]⟩ : Shape).Idx → α) (y : (⟨2, ![m, n₂]⟩ : Shape).Idx → α)
    (h : Shape.Concatenates [(⟨2, ![m, n₁]⟩ : Shape), ⟨2, ![m, n₂]⟩] ⟨2, ![m, n]⟩ 1) (r : Fin m) (c : Fin n) (i : Fin n₁) (hi : i.val = c.val) :
    concatenate ⟨2, ![m, n]⟩ 1 [⟨⟨2, ![m, n₁]⟩, x⟩, ⟨⟨2, ![m, n₂]⟩, y⟩] h (ix2 r c) = x (ix2 r i) :=
  concatenate_pair_apply_left (t := ⟨2, ![m, n]⟩) (s₁ := ⟨2, ![m, n₁]⟩) (s₂ := ⟨2, ![m, n₂]⟩) 1 x y h (ix2 r c) rfl (ix2 r i)
    fun b => match b with | ⟨0, _⟩ => rfl | ⟨1, _⟩ => hi
theorem beside_right {n₁ n₂ m n : ℕ} (x : (⟨2, ![m, n₁]⟩ : Shape).Idx → α) (y : (⟨2, ![m, n₂]⟩ : Shape).Idx → α)
    (h : Shape.Concatenates [(⟨2, ![m, n₁]⟩ : Shape), ⟨2, ![m, n₂]⟩] ⟨2, ![m, n]⟩ 1) (r : Fin m) (c : Fin n) (i : Fin n₂) (hi : i.val + n₁ = c.val) :
    concatenate ⟨2, ![m, n]⟩ 1 [⟨⟨2, ![m, n₁]⟩, x⟩, ⟨⟨2, ![m, n₂]⟩, y⟩] h (ix2 r c) = y (ix2 r i) :=
  concatenate_pair_apply_right (t := ⟨2, ![m, n]⟩) (s₁ := ⟨2, ![m, n₁]⟩) (s₂ := ⟨2, ![m, n₂]⟩) 1 x y h (ix2 r c) rfl rfl (ix2 r i)
    (fun b => match b with | ⟨0, _⟩ => fun _ => rfl | ⟨1, _⟩ => fun hn => absurd rfl hn) hi
theorem spreadRows_apply {m n : ℕ} (hn : n ≠ 1) (x : (⟨2, ![1, n]⟩ : Shape).Idx → α) (hb : (⟨2, ![1, n]⟩ : Shape).Broadcasts ⟨2, ![m, n]⟩) (i : Fin m) (j : Fin n) :
    broadcastTo ⟨2, ![m, n]⟩ x hb (ix2 i j) = x (ix2 0 j) :=
  broadcastTo_apply _ hb _ _ fun ax => match ax with | ⟨0, _⟩ => rfl | ⟨1, _⟩ => (if_neg hn).symm
end

variable {a : Args}

/-! ## The rows -/

theorem qRow_apply (h : Fin 10) (l : Fin 120) (e : Fin 96) : qRow (F := Ideal) (tq a) h (ix3 0 l e) = a.q (ix3 l h e) := by
  unfold qRow k0_pay4
  refine (shapeCast_ab_1ab_apply _ shapeCasts_S120x96_S1x120x96 0 l e).trans ?_
  refine (transpose_ix2_apply (k0_pay3 (F := Ideal) (qAt (tq a) h)) transposes_S96x120_p1_0_S120x96 l e).trans ?_
  exact (shapeCast_1ab_ab_apply (qAt (tq a) h) shapeCasts_S1x96x120_S96x120 e l).trans (qAt_apply a h e l)

theorem codesRow_apply (ha : a.Bounded) (i : Fin 20) (e : Fin 96) (l : Fin 120) : codesRow (F := Ideal) (td a) i (ix4 0 0 e l) = a.code (bt i) (hd i) l e :=
  (uncast4_apply _ shapeCasts_S96x120_S1x1x96x120 e l).trans (codes_apply ha i e l)

theorem dlRow_apply (ha : a.Bounded) (i : Fin 20) (l : Fin 120) (e : Fin 96) :
    dlRow (F := Ideal) (td a) i (ix3 0 ⟨l.val, by omega⟩ e) = a.code (bt i) (hd i) l e := by
  unfold dlRow k0_pay13
  refine (shapeCast_ab_1ab_apply _ shapeCasts_S128x96_S1x128x96 0 _ e).trans ?_
  refine (stack_top _ _ concatenates_S120x96_S8x96_S128x96_d0 _ e l rfl).trans ?_
  refine (transpose_ix2_apply _ transposes_S96x120_p1_0_S120x96 l e).trans ?_
  exact codes_apply ha i e l

theorem gRow_q (i : Fin 20) (e : Fin 96) (l : Fin 120) :
    gRow (F := Ideal) (tq a) (td a) i (ix3 0 ⟨e.val, by omega⟩ ⟨l.val, by omega⟩) = a.q (ix3 l (hd i) e) := by
  unfold gRow k0_pay14
  refine (shapeCast_ab_1ab_apply _ shapeCasts_S192x240_S1x192x240 0 _ _).trans ?_
  refine (stack_top _ _ concatenates_S96x240_S96x240_S192x240_d0 _ _ e rfl).trans ?_
  refine (beside_left _ _ concatenates_S96x120_S96x120_S96x240_d1 e _ l rfl).trans ?_
  exact (shapeCast_1ab_ab_apply (qAt (tq a) (hd i)) shapeCasts_S1x96x120_S96x120 e l).trans (qAt_apply a (hd i) e l)

theorem gRow_q0 (i : Fin 20) (e : Fin 96) (l : Fin 120) :
    gRow (F := Ideal) (tq a) (td a) i (ix3 0 ⟨e.val, by omega⟩ ⟨l.val + 120, by omega⟩) = 0 := by
  unfold gRow k0_pay14
  refine (shapeCast_ab_1ab_apply _ shapeCasts_S192x240_S1x192x240 0 _ _).trans ?_
  refine (stack_top _ _ concatenates_S96x240_S96x240_S192x240_d0 _ _ e rfl).trans ?_
  refine (beside_right _ _ concatenates_S96x120_S96x120_S96x240_d1 e _ l rfl).trans ?_
  exact Ideal.ofBits_zero_f32

theorem gRow_d0 (i : Fin 20) (e : Fin 96) (l : Fin 120) :
    gRow (F := Ideal) (tq a) (td a) i (ix3 0 ⟨e.val + 96, by omega⟩ ⟨l.val, by omega⟩) = 0 := by
  unfold gRow k0_pay14
  refine (shapeCast_ab_1ab_apply _ shapeCasts_S192x240_S1x192x240 0 _ _).trans ?_
  refine (stack_bottom _ _ concatenates_S96x240_S96x240_S192x240_d0 _ _ e rfl).trans ?_
  refine (beside_left _ _ concatenates_S96x120_S96x120_S96x240_d1 e _ l rfl).trans ?_
  exact Ideal.ofBits_zero_f32

theorem gRow_d (ha : a.Bounded) (i : Fin 20) (e : Fin 96) (l : Fin 120) :
    gRow (F := Ideal) (tq a) (td a) i (ix3 0 ⟨e.val + 96, by omega⟩ ⟨l.val + 120, by omega⟩) = a.code (bt i) (hd i) l e := by
  unfold gRow k0_pay14
  refine (shapeCast_ab_1ab_apply _ shapeCasts_S192x240_S1x192x240 0 _ _).trans ?_
  refine (stack_bottom _ _ concatenates_S96x240_S96x240_S192x240_d0 _ _ e rfl).trans ?_
  refine (beside_right _ _ concatenates_S96x120_S96x120_S96x240_d1 e _ l rfl).trans ?_
  exact codes_apply ha i e l

theorem dltRow_apply (ha : a.Bounded) (i : Fin 20) (l : Fin 120) (j : Fin 128) :
    dltRow (F := Ideal) (td a) (tO a) i (ix3 0 l j) = a.delta (bt i) (hd i) l := by
  unfold dltRow k0_pay15
  refine (shapeCast_ab_1ab_apply _ shapeCasts_S120x128_S1x120x128 0 l j).trans ?_
  refine (transpose_ix2_apply _ transposes_S128x120_p1_0_S120x128 l j).trans ?_
  refine (spreadRows_apply (by decide) _ broadcasts_S1x120_S128x120 j l).trans ?_
  refine (cast_self_apply _ shapeCasts_S1x120_S1x120 (ix2 0 l)).trans ?_
  refine (shapeCast_a_1a_apply _ shapeCasts_S120_S1x120 0 l).trans ((sum_rows _ _ _ l).trans (Finset.sum_congr rfl fun e _ => ?_))
  show (k0_pay10 (F := Ideal) (k0_pay5 (dAt (td a) i)) (k0_pay6 (dAt (td a) i)) (k0_pay7 (dAt (td a) i)) 126#32 (ix2 e l)
    * broadcastTo S96x120 (headScale (F := Ideal) (dAt (td a) i)) broadcasts_S1x1_S96x120 (ix2 e l)) * shapeCast S96x120 (dAt (tO a) i) shapeCasts_S1x1x96x120_S96x120 (ix2 e l) = _
  rw [codes_apply ha, spread11_apply, headScale_apply ha, cast4_apply, oAt_apply]

theorem log2e_eq : Named.named (F := Ideal) κ "log2e" (φ := .f32) 0x3FB8AA3B#32 = L := IdealRules.named_const.ideal_named_scalar _ _ _ _ rfl

theorem lseRow_apply (i : Fin 20) (l : Fin 120) (j : Fin 128) : lseRow (F := Ideal) (tl a) i (ix3 0 l j) = a.lse (ix3 (bt i) (hd i) l) * L := by
  unfold lseRow k0_pay16
  refine (shapeCast_ab_1ab_apply _ shapeCasts_S120x128_S1x120x128 0 l j).trans ?_
  refine (transpose_ix2_apply _ transposes_S128x120_p1_0_S120x128 l j).trans ?_
  refine (spreadRows_apply (by decide) _ broadcasts_S1x120_S128x120 j l).trans ?_
  refine (cast_self_apply _ shapeCasts_S1x120_S1x120 (ix2 0 l)).trans ?_
  show shapeCast S1x120 (lAt (tl a) i) shapeCasts_S1x1x120_S1x120 (ix2 0 l) * Named.named (F := Ideal) κ "log2e" (φ := .f32) 0x3FB8AA3B#32 = _
  rw [shapeCast_1ab_ab_apply, lAt_apply, log2e_eq]

theorem pay17_apply (ha : a.Bounded) (i : Fin 20) (r : Fin 8) (j : Fin 128) : k0_pay17 (headScale (F := Ideal) (dAt (td a) i)) (ix2 r j) = a.scale (bt i) (hd i) := by
  unfold k0_pay17
  exact (spread11_apply _ broadcasts_S1x1_S8x128 r j).trans ((cast_self_apply _ shapeCasts_S1x1_S1x1 (ix2 0 0)).trans (headScale_apply ha i))

theorem dosRow_apply (ha : a.Bounded) (i : Fin 20) (r : Fin 8) (j : Fin 128) : dosRow (F := Ideal) (td a) i (ix3 0 r j) = a.scale (bt i) (hd i) :=
  (shapeCast_ab_1ab_apply _ shapeCasts_S8x128_S1x8x128 0 r j).trans (pay17_apply ha i r j)

theorem dpsRow_apply (ha : a.Bounded) (i : Fin 20) (r : Fin 8) (j : Fin 128) :
    dpsRow (F := Ideal) (td a) a.vs i (ix3 0 r j) = a.scale (bt i) (hd i) * a.vs (ix2 (bt i) (hd i)) := by
  unfold dpsRow k0_pay20
  refine (shapeCast_ab_1ab_apply _ shapeCasts_S8x128_S1x8x128 0 r j).trans ?_
  show k0_pay17 (headScale (F := Ideal) (dAt (td a) i)) (ix2 r j) * sAt (F := Ideal) a.vs i = _
  rw [pay17_apply ha, sAt_apply]

/-! ## The two outputs of the first point -/

/-- The row of head `h` and batch `b` in the kernel's order. -/
abbrev krow (b : Fin 2) (h : Fin 10) : Fin 20 := ⟨2 * h.val + b.val, by omega⟩

theorem bt_krow (b : Fin 2) (h : Fin 10) : bt (krow b h) = b := Fin.ext (by show (2 * h.val + b.val) % 2 = b.val; omega)
theorem hd_krow (b : Fin 2) (h : Fin 10) : hd (krow b h) = h := Fin.ext (by show (2 * h.val + b.val) / 2 = h.val; omega)

theorem prepCodes_apply (ha : a.Bounded) (b : Fin 2) (h : Fin 10) (e : Fin 96) (l : Fin 120) : prepCodes (F := Ideal) (td a) (ix4 b h e l) = a.code b h l e := by
  show codesRow (F := Ideal) (td a) (krow b h) (ix4 0 0 e l) = _
  rw [codesRow_apply ha, bt_krow, hd_krow]

theorem word_at : ∀ (b : Fin 2) (h : Fin 10) (n : Fin 20),
    IntOp.andi (IntOp.cmpi .eq (BitVec.ofNat 32 (0 * 2 + b.val)) (BitVec.ofNat 32 (n.val % 2))) (IntOp.cmpi .eq (BitVec.ofNat 32 (0 * 10 + h.val)) (BitVec.ofNat 32 (n.val / 2)))
      = if 2 * h.val + b.val = n.val then 1#1 else 0#1 := by decide

theorem scalesN_apply (ha : a.Bounded) (b : Fin 2) (h : Fin 10) : ∀ (n : ℕ) (hn : n ≤ 20), 2 * h.val + b.val < n → scalesN (F := Ideal) (td a) n hn (ix2 b h) = a.scale b h
  | 0, _, hlt => absurd hlt (Nat.not_lt_zero _)
  | n + 1, hn, hlt => by
    unfold scalesN
    show Scalar.select (IntOp.andi (IntOp.cmpi .eq (BitVec.ofNat 32 (0 * 2 + b.val)) (BitVec.ofNat 32 (n % 2))) (IntOp.cmpi .eq (BitVec.ofNat 32 (0 * 10 + h.val)) (BitVec.ofNat 32 (n / 2))))
      (broadcastTo S2x10 (shapeCast S1x1 (headScale (F := Ideal) (dAt (td a) ⟨n, hn⟩)) shapeCasts_S1x1_S1x1) broadcasts_S1x1_S2x10 (ix2 b h)) (scalesN (F := Ideal) (td a) n (Nat.le_of_succ_le hn) (ix2 b h)) = _
    rw [word_at b h ⟨n, hn⟩]
    by_cases e : 2 * h.val + b.val = n
    · rw [if_pos e]
      show broadcastTo S2x10 (shapeCast S1x1 (headScale (F := Ideal) (dAt (td a) ⟨n, hn⟩)) shapeCasts_S1x1_S1x1) broadcasts_S1x1_S2x10 (ix2 b h) = _
      rw [spread11_apply, cast_self_apply, headScale_apply ha]
      have : (⟨n, hn⟩ : Fin 20) = krow b h := Fin.ext e.symm
      rw [this, bt_krow, hd_krow]
    · rw [if_neg e]
      exact scalesN_apply ha b h n _ (by omega)

theorem prepScales_apply (ha : a.Bounded) (b : Fin 2) (h : Fin 10) : prepScales (F := Ideal) (td a) (ix2 b h) = a.scale b h :=
  scalesN_apply ha b h 20 le_rfl (by omega)

end Cert.KernelIdeal.Gen

end
-- ==== Proof.TileValue.lean ====
/- What one grid point computes, entry by entry, at the ideal numbers: its part of the key and value gradients, and the
   running sum of the query gradient over its keys. -/
module

public import proofs.«01_k».proof.Proof.PrepRows

@[expose] public section

noncomputable section

namespace Cert.KernelIdeal.Gen

open Cert.KernelIdeal Idealize.ShloMosaic Idealize.ShloMosaic.ValueIdx Cert.Spec

/-! ## Products -/

theorem matmul_s (X : FVec Ideal S120x96 .bf16) (Y : FVec Ideal S96x256 .bf16) (l : Fin 120) (j : Fin 256) :
    (matmul dot_S120x96_S96x256_S120x256_1_0_0_1_n_n none X Y (constant S120x256 .f32 0x00000000#32) : FVec Ideal S120x256 .f32) (ix2 l j) = ∑ e : Fin 96, X (ix2 l e) * Y (ix2 e j) := by
  rw [show dot_S120x96_S96x256_S120x256_1_0_0_1_n_n = DotDims.plain 120 96 256 from rfl]
  refine (Ideal.matmul_plain_apply none X Y _ l j).trans ?_
  show Ideal.ofBits .f32 0x00000000#32 + _ = _
  rw [Ideal.ofBits_zero_f32, zero_add]
theorem matmul_dp (X : FVec Ideal S128x96 .fp8e5m2) (Y : FVec Ideal S96x256 .fp8e4m3) (l : Fin 128) (j : Fin 256) :
    (matmul dot_S128x96_S96x256_S128x256_1_0_0_1_n_n none X Y (constant S128x256 .f32 0x00000000#32) : FVec Ideal S128x256 .f32) (ix2 l j) = ∑ e : Fin 96, X (ix2 l e) * Y (ix2 e j) := by
  rw [show dot_S128x96_S96x256_S128x256_1_0_0_1_n_n = DotDims.plain 128 96 256 from rfl]
  refine (Ideal.matmul_plain_apply none X Y _ l j).trans ?_
  show Ideal.ofBits .f32 0x00000000#32 + _ = _
  rw [Ideal.ofBits_zero_f32, zero_add]
theorem matmul_g (X : FVec Ideal S192x240 .bf16) (Y : FVec Ideal S240x256 .bf16) (r : Fin 192) (j : Fin 256) :
    (matmul dot_S192x240_S240x256_S192x256_1_0_0_1_n_n none X Y (constant S192x256 .f32 0x00000000#32) : FVec Ideal S192x256 .f32) (ix2 r j) = ∑ s : Fin 240, X (ix2 r s) * Y (ix2 s j) := by
  rw [show dot_S192x240_S240x256_S192x256_1_0_0_1_n_n = DotDims.plain 192 240 256 from rfl]
  refine (Ideal.matmul_plain_apply none X Y _ r j).trans ?_
  show Ideal.ofBits .f32 0x00000000#32 + _ = _
  rw [Ideal.ofBits_zero_f32, zero_add]
theorem matmul_acc (X : FVec Ideal S96x256 .bf16) (Y : FVec Ideal S128x256 .bf16) (e : Fin 96) (l : Fin 128) :
    (matmul dot_S96x256_S128x256_S96x128_1_1_0_0_n_n none X Y (constant S96x128 .f32 0x00000000#32) : FVec Ideal S96x128 .f32) (ix2 e l) = ∑ j : Fin 256, X (ix2 e j) * Y (ix2 l j) := by
  rw [show dot_S96x256_S128x256_S96x128_1_1_0_0_n_n = DotDims.transposedRhs 96 256 128 from rfl]
  refine (Ideal.matmul_transposedRhs_apply none X Y _ e l).trans ?_
  show Ideal.ofBits .f32 0x00000000#32 + _ = _
  rw [Ideal.ofBits_zero_f32, zero_add]

/-- A sum over 240 rows, the first 120 and the last. -/
theorem sum240 (f : Fin 240 → EReal) : ∑ s : Fin 240, f s = (∑ l : Fin 120, f ⟨l.val, by omega⟩) + ∑ l : Fin 120, f ⟨l.val + 120, by omega⟩ := by
  refine (Fin.sum_univ_add (a := 120) (b := 120) f).trans (congrArg₂ (· + ·) rfl (Finset.sum_congr rfl fun l _ => congrArg f (Fin.ext ?_)))
  show 120 + l.val = l.val + 120
  omega

/-! ## A tile of the specification -/

/-- Key `j` of chunk `k` of block `n`. -/
abbrev key (n : Fin 8) (k : Fin 32) (j : Fin 256) : Fin 65536 := ⟨8192 * n.val + 256 * k.val + j.val, by omega⟩

/-- The tile reads batch `b`, head `h`, block `n` of the arguments. -/
structure Tile.At (a : Args) (b : Fin 2) (h : Fin 10) (n : Fin 8) (p : Tile Ideal) : Prop where
  ks : p.ks = a.ks (ix2 b h)
  kb : ∀ k e j, p.kb k (ix4 0 0 e j) = a.k (ix4 b (key n k j) h e)
  vb : ∀ k e j, p.vb k (ix4 0 0 e j) = a.v (ix4 b (key n k j) h e)
  q : ∀ (l : Fin 120) (e : Fin 96), p.q (ix3 0 l e) = a.q (ix3 l h e)
  dl : ∀ (l : Fin 120) (e : Fin 96), p.dl (ix3 0 ⟨l.val, by omega⟩ e) = a.code b h l e
  gq : ∀ (l : Fin 120) (e : Fin 96), p.g (ix3 0 ⟨e.val, by omega⟩ ⟨l.val, by omega⟩) = a.q (ix3 l h e)
  gq0 : ∀ (l : Fin 120) (e : Fin 96), p.g (ix3 0 ⟨e.val, by omega⟩ ⟨l.val + 120, by omega⟩) = 0
  gd0 : ∀ (l : Fin 120) (e : Fin 96), p.g (ix3 0 ⟨e.val + 96, by omega⟩ ⟨l.val, by omega⟩) = 0
  gd : ∀ (l : Fin 120) (e : Fin 96), p.g (ix3 0 ⟨e.val + 96, by omega⟩ ⟨l.val + 120, by omega⟩) = a.code b h l e
  lse : ∀ l j, p.lse (ix3 0 l j) = a.lse (ix3 b h l) * L
  dlt : ∀ l j, p.dlt (ix3 0 l j) = a.delta b h l
  dps : p.dps (ix3 0 0 0) = a.scale b h * a.vs (ix2 b h)
  dos : p.dos (ix3 0 0 0) = a.scale b h

namespace Tile.At

variable {a : Args} {b : Fin 2} {h : Fin 10} {n : Fin 8} {p : Tile Ideal} (hp : Tile.At a b h n p)

/-- Two copies side by side read the same row. -/
def twice (x : FVec Ideal S120x128 .f32) : FVec Ideal S120x256 .f32 :=
  concatenate S120x256 1 [⟨S120x128, x⟩, ⟨S120x128, x⟩] concatenates_S120x128_S120x128_S120x256_d1
theorem twice_apply (x : FVec Ideal S120x128 .f32) (l : Fin 120) (z : EReal) (hx : ∀ j, x (ix2 l j) = z) (j : Fin 256) :
    twice x (ix2 l j) = z := by
  unfold twice
  rcases Nat.lt_or_ge j.val 128 with hj | hj
  · exact (beside_left _ _ concatenates_S120x128_S120x128_S120x256_d1 l j ⟨j.val, hj⟩ rfl).trans (hx _)
  · exact (beside_right _ _ concatenates_S120x128_S120x128_S120x256_d1 l j ⟨j.val - 128, by omega⟩ (by show j.val - 128 + 128 = j.val; omega)).trans (hx _)

/-- The corner of a spread scale. -/
theorem corner_apply (x : FVec Ideal S1x8x128 .f32) :
    extractStridedSlice S1x1 ![0, 0] (shapeCast S8x128 x shapeCasts_S1x8x128_S8x128) slices_S8x128_o0_0_S1x1 (ix2 0 0) = x (ix3 0 0 0) :=
  (extractStridedSlice_apply _ _ slices_S8x128_o0_0_S1x1 (ix2 0 0) (ix2 0 0) (fun c => match c with | ⟨0, _⟩ => rfl | ⟨1, _⟩ => rfl)).trans
    (shapeCast_1ab_ab_apply x shapeCasts_S1x8x128_S8x128 0 0)

/-- The probabilities of a chunk, before they are stacked. -/
def pv (p : Tile Ideal) (k : Fin 32) : FVec Ideal S120x256 .f32 :=
  exp2 (subf (mulf (k0_pay354 (p.kb k) p.q) (broadcast S120x256 (k0_pay352 p.ks)))
    (twice (shapeCast S120x128 p.lse shapeCasts_S1x120x128_S120x128)))

include hp

theorem pv_apply (k : Fin 32) (l : Fin 120) (j : Fin 256) : pv p k (ix2 l j) = a.p b h l (key n k j) := by
  unfold pv k0_pay354 k0_pay352 k0_pay353
  show Ideal.exp2 (matmul (F := Ideal) dot_S120x96_S96x256_S120x256_1_0_0_1_n_n none _ _ _ (ix2 l j) * ((sm * p.ks) * Named.named (F := Ideal) κ "log2e" (φ := .f32) 0x3FB8AA3B#32) - twice _ (ix2 l j)) = _
  rw [matmul_s, twice_apply _ l (a.lse (ix3 b h l) * L) (fun i => (shapeCast_1ab_ab_apply p.lse shapeCasts_S1x120x128_S120x128 l i).trans (hp.lse l i)), log2e_eq, hp.ks, mul_comm, exp2_score]
  unfold Args.p
  refine congrArg (fun x : EReal => Ideal.exp ((sm * a.ks (ix2 b h)) * x - a.lse (ix3 b h l))) (Finset.sum_congr rfl fun e _ => congrArg₂ (fun x y : EReal => x * y) ?_ ?_)
  · exact (shapeCast_1ab_ab_apply p.q shapeCasts_S1x120x96_S120x96 l e).trans (hp.q l e)
  · exact (cast4_apply (p.kb k) shapeCasts_S1x1x96x256_S96x256 e j).trans (hp.kb k e j)

/-- The lower half of a chunk's stack is the probabilities. -/
theorem w_p (k : Fin 32) (l : Fin 120) (j : Fin 256) : p.w k (ix2 ⟨l.val + 120, by omega⟩ j) = a.p b h l (key n k j) := by
  unfold Tile.w k0_pay357
  refine (stack_bottom _ _ concatenates_S120x256_S120x256_S240x256_d0 _ j l rfl).trans ?_
  exact pv_apply hp k l j

/-- The upper half is the score gradients. -/
theorem w_ds (k : Fin 32) (l : Fin 120) (j : Fin 256) : p.w k (ix2 ⟨l.val, by omega⟩ j) = a.ds b h l (key n k j) := by
  unfold Tile.w k0_pay357
  refine (stack_top _ _ concatenates_S120x256_S120x256_S240x256_d0 _ j l rfl).trans ?_
  show pv p k (ix2 l j) * (extractStridedSlice S120x256 ![0, 0] (matmul (F := Ideal) dot_S128x96_S96x256_S128x256_1_0_0_1_n_n none (k0_pay355 p.dl) (k0_pay356 (p.vb k)) (constant S128x256 .f32 0x00000000#32)) slices_S128x256_o0_0_S120x256 (ix2 l j)
    * broadcastTo S120x256 _ broadcasts_S1x1_S120x256 (ix2 l j) - twice _ (ix2 l j)) = _
  rw [pv_apply hp, slice2_axis0_apply 0 _ slices_S128x256_o0_0_S120x256 l j ⟨l.val, by omega⟩ (Nat.zero_add _).symm, matmul_dp, spread11_apply, cast_self_apply,
    corner_apply, hp.dps,
    twice_apply _ l (a.delta b h l) (fun i => (shapeCast_1ab_ab_apply p.dlt shapeCasts_S1x120x128_S120x128 l i).trans (hp.dlt l i))]
  unfold Args.ds
  rw [mul_comm (∑ e : Fin 96, _)]
  refine congrArg (fun x : EReal => a.p b h l (key n k j) * ((a.scale b h * a.vs (ix2 b h)) * x - a.delta b h l)) (Finset.sum_congr rfl fun e _ => congrArg₂ (fun x y : EReal => x * y) ?_ ?_)
  · exact (shapeCast_1ab_ab_apply p.dl shapeCasts_S1x128x96_S128x96 _ e).trans (hp.dl l e)
  · exact (cast4_apply (p.vb k) shapeCasts_S1x1x96x256_S96x256 e j).trans (hp.vb k e j)

/-- The key gradient of a chunk. -/
theorem dk_apply (k : Fin 32) (e : Fin 96) (j : Fin 256) : p.dk k (ix4 0 0 e j) = a.dk b (key n k j) h e := by
  unfold Tile.dk k0_pay367
  refine (uncast4_apply _ shapeCasts_S96x256_S1x1x96x256 e j).trans ?_
  show extractStridedSlice S96x256 ![0, 0] (k0_pay366 (F := Ideal) (p.w k) p.g) slices_S192x256_o0_0_S96x256 (ix2 e j) * sm = _
  rw [slice2_axis0_apply 0 _ slices_S192x256_o0_0_S96x256 e j ⟨e.val, by omega⟩ (Nat.zero_add _).symm]
  unfold k0_pay366 Args.dk
  refine (congrArg (fun x : EReal => x * sm) ((matmul_g _ _ _ j).trans (sum240 _))).trans ?_
  rw [mul_comm]
  refine congrArg (fun x : EReal => sm * x) ?_
  have h2 : ∑ l : Fin 120, shapeCast S192x240 p.g shapeCasts_S1x192x240_S192x240 (ix2 ⟨e.val, by omega⟩ ⟨l.val + 120, by omega⟩) * p.w k (ix2 ⟨l.val + 120, by omega⟩ j) = 0 :=
    Finset.sum_eq_zero fun l _ => by rw [shapeCast_1ab_ab_apply, hp.gq0, zero_mul]
  refine (congrArg₂ (fun x y : EReal => x + y) (Finset.sum_congr rfl fun l _ => ?_) h2).trans (add_zero _)
  rw [shapeCast_1ab_ab_apply, hp.gq, w_ds hp, mul_comm]

/-- The value gradient of a chunk. -/
theorem dv_apply (k : Fin 32) (e : Fin 96) (j : Fin 256) : p.dv k (ix4 0 0 e j) = a.dv b (key n k j) h e := by
  unfold Tile.dv k0_pay369 k0_pay368
  refine (uncast4_apply _ shapeCasts_S96x256_S1x1x96x256 e j).trans ?_
  show extractStridedSlice S96x256 ![96, 0] (k0_pay366 (F := Ideal) (p.w k) p.g) slices_S192x256_o96_0_S96x256 (ix2 e j) * broadcastTo S96x256 _ broadcasts_S1x1_S96x256 (ix2 e j) = _
  rw [slice2_axis0_apply 96 _ slices_S192x256_o96_0_S96x256 e j ⟨e.val + 96, by omega⟩ (Nat.add_comm _ _), spread11_apply, cast_self_apply, corner_apply, hp.dos]
  unfold k0_pay366 Args.dv
  refine (congrArg (fun x : EReal => x * a.scale b h) ((matmul_g _ _ _ j).trans (sum240 _))).trans ?_
  rw [mul_comm]
  refine congrArg (fun x : EReal => a.scale b h * x) ?_
  have h1 : ∑ l : Fin 120, shapeCast S192x240 p.g shapeCasts_S1x192x240_S192x240 (ix2 ⟨e.val + 96, by omega⟩ ⟨l.val, by omega⟩) * p.w k (ix2 ⟨l.val, by omega⟩ j) = 0 :=
    Finset.sum_eq_zero fun l _ => by rw [shapeCast_1ab_ab_apply, hp.gd0, zero_mul]
  refine (congrArg₂ (fun x y : EReal => x + y) h1 (Finset.sum_congr rfl fun l _ => ?_)).trans (zero_add _)
  rw [shapeCast_1ab_ab_apply, hp.gd, w_p hp, mul_comm]

omit hp in
/-- Key `x`'s part of the query gradient, zero past the last key. -/
def part (a : Args) (b : Fin 2) (h : Fin 10) (l : Fin 120) (e : Fin 96) (x : ℕ) : EReal :=
  if hx : x < 65536 then a.ds b h l ⟨x, hx⟩ * a.k (ix4 b ⟨x, hx⟩ h e) else 0

/-- The running sum after some chunks. -/
theorem accN_apply (e : Fin 96) (l : Fin 120) : ∀ (m : ℕ) (hm : m ≤ 32),
    p.accN m hm (ix2 e ⟨l.val, by omega⟩) = p.acc (ix2 e ⟨l.val, by omega⟩) + ∑ x ∈ Finset.range (256 * m), part a b h l e (8192 * n.val + x)
  | 0, _ => by
    rw [Nat.mul_zero, Finset.sum_range_zero, add_zero]; rfl
  | m + 1, hm => by
    have ih := accN_apply e l m (Nat.le_of_succ_le hm)
    unfold Tile.accN k0_pay370
    show p.accN m _ (ix2 e ⟨l.val, by omega⟩) + matmul (F := Ideal) dot_S96x256_S128x256_S96x128_1_1_0_0_n_n none (k0_pay353 (p.kb ⟨m, hm⟩))
      (extractStridedSlice S128x256 ![0, 0] (p.w ⟨m, hm⟩) slices_S240x256_o0_0_S128x256) (constant S96x128 .f32 0x00000000#32) (ix2 e ⟨l.val, by omega⟩) = _
    rw [ih, matmul_acc, Nat.mul_succ, Finset.sum_range_add, add_assoc]
    refine congrArg (fun x : EReal => p.acc (ix2 e ⟨l.val, by omega⟩) + (_ + x)) ?_
    rw [← Fin.sum_univ_eq_sum_range (fun x => part a b h l e (8192 * n.val + (256 * m + x))) 256]
    refine Finset.sum_congr rfl fun j _ => ?_
    rw [slice2_axis0_apply 0 _ slices_S240x256_o0_0_S128x256 _ j ⟨l.val, by omega⟩ (Nat.zero_add _).symm, w_ds hp]
    unfold k0_pay353 part
    rw [dif_pos (by omega)]
    refine (congrArg (fun x : EReal => x * a.ds b h l (key n ⟨m, hm⟩ j)) ((cast4_apply (p.kb ⟨m, hm⟩) shapeCasts_S1x1x96x256_S96x256 e j).trans (hp.kb ⟨m, hm⟩ e j))).trans ?_
    rw [mul_comm]
    have : key n ⟨m, hm⟩ j = ⟨8192 * n.val + (256 * m + j.val), by omega⟩ := Fin.ext (Nat.add_assoc _ _ _)
    rw [this]

/-- The running sum a point stores back. -/
theorem accOut_apply (e : Fin 96) (l : Fin 120) :
    p.accOut (ix2 e ⟨l.val, by omega⟩) = p.acc (ix2 e ⟨l.val, by omega⟩) + ∑ x ∈ Finset.range 8192, part a b h l e (8192 * n.val + x) :=
  (cast_self_apply _ shapeCasts_S96x128_S96x128 _).trans (accN_apply hp e l 32 le_rfl)

end Tile.At

/-! ## The query gradient -/

theorem pay640_apply (ks : EReal) (A : Vec Ideal S96x128 .f32) (e : Fin 96) (l : Fin 120) :
    k0_pay640 (F := Ideal) ks (fun j => A ((Rect.unit (s := S96x128) ![0, 0] S96x120.size inb_S96x128_S96x120_0_0).toLoadRect.idx j)) (ix2 e l) = (sm * ks) * A (ix2 e ⟨l.val, by omega⟩) := by
  refine congrArg (fun x => (sm * ks) * A x) (funext fun c => Fin.ext ?_)
  match c with
  | ⟨0, _⟩ => show 0 + 1 * e.val = e.val; omega
  | ⟨1, _⟩ => show 0 + 1 * l.val = l.val; omega

theorem dqsOf_apply (ks : EReal) (A : Vec Ideal S96x128 .f32) (e : Fin 96) (l : Fin 120) :
    dqsOf (F := Ideal) ks A (ix4 0 0 e l) = (sm * ks) * A (ix2 e ⟨l.val, by omega⟩) :=
  (uncast4_apply _ shapeCasts_S96x120_S1x1x96x120 e l).trans (pay640_apply ks A e l)

theorem sumOf_first (ks : EReal) (A : Vec Ideal S96x128 .f32) (y : Vec Ideal S96x120 .f32) (e : Fin 96) (l : Fin 120) :
    sumOf (F := Ideal) 0#32 ks A y (ix2 e l) = (sm * ks) * A (ix2 e ⟨l.val, by omega⟩) :=
  (cast_self_apply _ shapeCasts_S96x120_S96x120 _).trans (pay640_apply ks A e l)

theorem sumOf_next (ks : EReal) (A : Vec Ideal S96x128 .f32) (y : Vec Ideal S96x120 .f32) (e : Fin 96) (l : Fin 120) :
    sumOf (F := Ideal) 1#32 ks A y (ix2 e l) = y (ix2 e l) + (sm * ks) * A (ix2 e ⟨l.val, by omega⟩) := by
  unfold sumOf k0_pay642
  refine (cast_self_apply _ shapeCasts_S96x120_S96x120 _).trans ?_
  refine congrArg₂ (fun u v : EReal => u + v) (congrArg y (funext fun c => Fin.ext ?_)) (pay640_apply ks A e l)
  match c with
  | ⟨0, _⟩ => show 0 + 1 * e.val = e.val; omega
  | ⟨1, _⟩ => show 0 + 1 * l.val = l.val; omega

theorem dqOf_apply (s : Vec Ideal S96x120 .f32) (e : Fin 96) (l : Fin 120) : dqOf (F := Ideal) s (ix3 0 e l) = s (ix2 e l) := by
  unfold dqOf k0_pay643
  refine (shapeCast_ab_1ab_apply _ shapeCasts_S96x120_S1x96x120 0 e l).trans ?_
  refine congrArg s (funext fun c => Fin.ext ?_)
  match c with
  | ⟨0, _⟩ => show 0 + 1 * e.val = e.val; omega
  | ⟨1, _⟩ => show 0 + 1 * l.val = l.val; omega

end Cert.KernelIdeal.Gen

end
-- ==== Proof.KernelValue.lean ====
/- The kernel's blocks at the ideal numbers: what each grid point reads, as entries of the eight argument arrays. -/
module

public import proofs.«01_k».proof.Proof.KernelIdealFrame
public import proofs.«01_k».proof.Proof.TileValue

@[expose] public section

set_option maxRecDepth 16384

noncomputable section

namespace Cert.KernelIdeal.Gen

open Cert.KernelIdeal Idealize.ShloMosaic Idealize.ShloMosaic.TcCoe Idealize.ShloMosaic.ValueIdx Cert.Spec
open Idealize.ShloMosaic.Tactic Idealize.ShloMosaic.StableHlo

variable (m : (ℓ : Loc nD τ sig) → Buf (Elt Ideal) ℓ)

/-! ## The arguments, and the arrays the region finds -/

/-- The eight argument arrays as the launch finds them. -/
def argsOf (c : Dev nD) : Args where
  q := m ((c : Thread nD τ).loc main_arg0)
  k := m ((c : Thread nD τ).loc main_arg1)
  ks := m ((c : Thread nD τ).loc main_arg2)
  v := m ((c : Thread nD τ).loc main_arg3)
  vs := m ((c : Thread nD τ).loc main_arg4)
  o := m ((c : Thread nD τ).loc main_arg5)
  lse := m ((c : Thread nD τ).loc main_arg6)
  d := m ((c : Thread nD τ).loc main_arg7)

theorem V_v0 (c : Dev nD) : V m c main_v0 = tq (argsOf m c) := by
  unfold V V0
  simp only [List.flatten_cons, List.flatten_nil, List.append_nil]
  after_results
  funext y
  exact transpose_apply _ _ transposes_S120x10x96_S10x96x120_1_2_0 _ _ (fun a => match a with | ⟨0, _⟩ => rfl | ⟨1, _⟩ => rfl | ⟨2, _⟩ => rfl)

theorem V_v1 (c : Dev nD) : V m c main_v1 = td (argsOf m c) := by
  unfold V V0
  simp only [List.flatten_cons, List.flatten_nil, List.append_nil]
  after_results
  funext y
  exact transpose_apply _ _ transposes_S2x120x10x96_S2x10x96x120_0_2_3_1 _ _ (fun a => match a with | ⟨0, _⟩ => rfl | ⟨1, _⟩ => rfl | ⟨2, _⟩ => rfl | ⟨3, _⟩ => rfl)

theorem V_v2 (c : Dev nD) : V m c main_v2 = tO (argsOf m c) := by
  unfold V V0
  simp only [List.flatten_cons, List.flatten_nil, List.append_nil]
  after_results
  funext y
  exact transpose_apply _ _ transposes_S2x120x10x96_S2x10x96x120_0_2_3_1 _ _ (fun a => match a with | ⟨0, _⟩ => rfl | ⟨1, _⟩ => rfl | ⟨2, _⟩ => rfl | ⟨3, _⟩ => rfl)

theorem V_v3 (c : Dev nD) : V m c main_v3 = tl (argsOf m c) := by
  unfold V V0
  simp only [List.flatten_cons, List.flatten_nil, List.append_nil]
  after_results
  funext y
  exact transpose_apply _ _ transposes_S2x10x120_S10x2x120_1_0_2 _ _ (fun a => match a with | ⟨0, _⟩ => rfl | ⟨1, _⟩ => rfl | ⟨2, _⟩ => rfl)

theorem V_v4 (c : Dev nD) : V m c main_v4 = tk (argsOf m c) := by
  unfold V V0
  simp only [List.flatten_cons, List.flatten_nil, List.append_nil]
  after_results
  funext y
  exact transpose_apply _ _ transposes_S2x65536x10x96_S2x10x96x65536_0_2_3_1 _ _ (fun a => match a with | ⟨0, _⟩ => rfl | ⟨1, _⟩ => rfl | ⟨2, _⟩ => rfl | ⟨3, _⟩ => rfl)

theorem V_v5 (c : Dev nD) : V m c main_v5 = tv (argsOf m c) := by
  unfold V V0
  simp only [List.flatten_cons, List.flatten_nil, List.append_nil]
  after_results
  funext y
  exact transpose_apply _ _ transposes_S2x65536x10x96_S2x10x96x65536_0_2_3_1 _ _ (fun a => match a with | ⟨0, _⟩ => rfl | ⟨1, _⟩ => rfl | ⟨2, _⟩ => rfl | ⟨3, _⟩ => rfl)

/-! ## The input blocks -/

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0, 0] := (by decide +kernel : ∀ t : Fin grid0.N, _)
theorem at4 : ∀ t : Fin cfg0.N, win0_4.index t = ![0, 0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![t.val / 8 % 2, t.val / 16, 0, t.val % 8] := (by decide +kernel : ∀ t : Fin grid0.N, _)
theorem at7 : ∀ t : Fin cfg0.N, win0_7.index t = ![t.val / 8 % 2, t.val / 16, 0, t.val % 8] := (by decide +kernel : ∀ t : Fin grid0.N, _)

/-- The batch, the head and the block of keys of a grid point. -/
def ptB (t : Fin cfg0.N) : Fin 2 := ⟨t.val / 8 % 2, by omega⟩
def ptH (t : Fin cfg0.N) : Fin 10 := ⟨t.val / 16, by have : t.val < 160 := lt_of_lt_of_eq t.isLt N_0; omega⟩
def ptN (t : Fin cfg0.N) : Fin 8 := ⟨t.val % 8, by omega⟩

theorem iblk0_eq (c : Dev nD) (t : Fin cfg0.N) : iblk m c 0 t = (argsOf m c).ks := by
  refine Eq.trans (funext fun j => ?_) (V_main_arg2 m c)
  refine congrArg (V m c main_arg2) (funext fun a => Fin.ext ?_)
  match a with
  | ⟨0, _⟩ => show win0_0.index t (0 : Fin 2) * 2 + 1 * (j 0).val = (j 0).val; rw [at0]; show 0 * 2 + _ = _; omega
  | ⟨1, _⟩ => show win0_0.index t (1 : Fin 2) * 10 + 1 * (j 1).val = (j 1).val; rw [at0]; show 0 * 10 + _ = _; omega

theorem iblk1_eq (c : Dev nD) (t : Fin cfg0.N) : iblk m c 1 t = (argsOf m c).vs := by
  refine Eq.trans (funext fun j => ?_) (V_main_arg4 m c)
  refine congrArg (V m c main_arg4) (funext fun a => Fin.ext ?_)
  match a with
  | ⟨0, _⟩ => show win0_1.index t (0 : Fin 2) * 2 + 1 * (j 0).val = (j 0).val; rw [at1]; show 0 * 2 + _ = _; omega
  | ⟨1, _⟩ => show win0_1.index t (1 : Fin 2) * 10 + 1 * (j 1).val = (j 1).val; rw [at1]; show 0 * 10 + _ = _; omega

theorem iblk2_eq (c : Dev nD) (t : Fin cfg0.N) : iblk m c 2 t = tq (argsOf m c) := by
  refine Eq.trans (funext fun j => ?_) (V_v0 m c)
  refine congrArg (V m c main_v0) (funext fun a => Fin.ext ?_)
  match a with
  | ⟨0, _⟩ => show win0_2.index t (0 : Fin 3) * 10 + 1 * (j 0).val = (j 0).val; rw [at2]; show 0 * 10 + _ = _; omega
  | ⟨1, _⟩ => show win0_2.index t (1 : Fin 3) * 96 + 1 * (j 1).val = (j 1).val; rw [at2]; show 0 * 96 + _ = _; omega
  | ⟨2, _⟩ => show win0_2.index t (2 : Fin 3) * 120 + 1 * (j 2).val = (j 2).val; rw [at2]; show 0 * 120 + _ = _; omega

theorem iblk3_eq (c : Dev nD) (t : Fin cfg0.N) : iblk m c 3 t = td (argsOf m c) := by
  refine Eq.trans (funext fun j => ?_) (V_v1 m c)
  refine congrArg (V m c main_v1) (funext fun a => Fin.ext ?_)
  match a with
  | ⟨0, _⟩ => show win0_3.index t (0 : Fin 4) * 2 + 1 * (j 0).val = (j 0).val; rw [at3]; show 0 * 2 + _ = _; omega
  | ⟨1, _⟩ => show win0_3.index t (1 : Fin 4) * 10 + 1 * (j 1).val = (j 1).val; rw [at3]; show 0 * 10 + _ = _; omega
  | ⟨2, _⟩ => show win0_3.index t (2 : Fin 4) * 96 + 1 * (j 2).val = (j 2).val; rw [at3]; show 0 * 96 + _ = _; omega
  | ⟨3, _⟩ => show win0_3.index t (3 : Fin 4) * 120 + 1 * (j 3).val = (j 3).val; rw [at3]; show 0 * 120 + _ = _; omega

theorem iblk4_eq (c : Dev nD) (t : Fin cfg0.N) : iblk m c 4 t = tO (argsOf m c) := by
  refine Eq.trans (funext fun j => ?_) (V_v2 m c)
  refine congrArg (V m c main_v2) (funext fun a => Fin.ext ?_)
  match a with
  | ⟨0, _⟩ => show win0_4.index t (0 : Fin 4) * 2 + 1 * (j 0).val = (j 0).val; rw [at4]; show 0 * 2 + _ = _; omega
  | ⟨1, _⟩ => show win0_4.index t (1 : Fin 4) * 10 + 1 * (j 1).val = (j 1).val; rw [at4]; show 0 * 10 + _ = _; omega
  | ⟨2, _⟩ => show win0_4.index t (2 : Fin 4) * 96 + 1 * (j 2).val = (j 2).val; rw [at4]; show 0 * 96 + _ = _; omega
  | ⟨3, _⟩ => show win0_4.index t (3 : Fin 4) * 120 + 1 * (j 3).val = (j 3).val; rw [at4]; show 0 * 120 + _ = _; omega

theorem iblk5_eq (c : Dev nD) (t : Fin cfg0.N) : iblk m c 5 t = tl (argsOf m c) := by
  refine Eq.trans (funext fun j => ?_) (V_v3 m c)
  refine congrArg (V m c main_v3) (funext fun a => Fin.ext ?_)
  match a with
  | ⟨0, _⟩ => show win0_5.index t (0 : Fin 3) * 10 + 1 * (j 0).val = (j 0).val; rw [at5]; show 0 * 10 + _ = _; omega
  | ⟨1, _⟩ => show win0_5.index t (1 : Fin 3) * 2 + 1 * (j 1).val = (j 1).val; rw [at5]; show 0 * 2 + _ = _; omega
  | ⟨2, _⟩ => show win0_5.index t (2 : Fin 3) * 120 + 1 * (j 2).val = (j 2).val; rw [at5]; show 0 * 120 + _ = _; omega

/-- The key block of a point holds that point's keys. -/
theorem iblk6_apply (c : Dev nD) (t : Fin cfg0.N) (e : Fin 96) (x : Fin 8192) :
    iblk m c 6 t (ix4 0 0 e x) = (argsOf m c).k (ix4 (ptB t) ⟨8192 * (ptN t).val + x.val, by omega⟩ (ptH t) e) := by
  refine Eq.trans ?_ (congrFun (V_v4 m c) (ix4 (ptB t) (ptH t) e ⟨8192 * (ptN t).val + x.val, by omega⟩))
  refine congrArg (V m c main_v4) (funext fun a => Fin.ext ?_)
  match a with
  | ⟨0, _⟩ => show win0_6.index t (0 : Fin 4) * 1 + 1 * 0 = t.val / 8 % 2; rw [at6]; show t.val / 8 % 2 * 1 + _ = _; omega
  | ⟨1, _⟩ => show win0_6.index t (1 : Fin 4) * 1 + 1 * 0 = t.val / 16; rw [at6]; show t.val / 16 * 1 + _ = _; omega
  | ⟨2, _⟩ => show win0_6.index t (2 : Fin 4) * 96 + 1 * e.val = e.val; rw [at6]; show 0 * 96 + _ = _; omega
  | ⟨3, _⟩ => show win0_6.index t (3 : Fin 4) * 8192 + 1 * x.val = 8192 * (t.val % 8) + x.val; rw [at6]; show t.val % 8 * 8192 + _ = _; omega

/-- The value block of a point holds that point's values. -/
theorem iblk7_apply (c : Dev nD) (t : Fin cfg0.N) (e : Fin 96) (x : Fin 8192) :
    iblk m c 7 t (ix4 0 0 e x) = (argsOf m c).v (ix4 (ptB t) ⟨8192 * (ptN t).val + x.val, by omega⟩ (ptH t) e) := by
  refine Eq.trans ?_ (congrFun (V_v5 m c) (ix4 (ptB t) (ptH t) e ⟨8192 * (ptN t).val + x.val, by omega⟩))
  refine congrArg (V m c main_v5) (funext fun a => Fin.ext ?_)
  match a with
  | ⟨0, _⟩ => show win0_7.index t (0 : Fin 4) * 1 + 1 * 0 = t.val / 8 % 2; rw [at7]; show t.val / 8 % 2 * 1 + _ = _; omega
  | ⟨1, _⟩ => show win0_7.index t (1 : Fin 4) * 1 + 1 * 0 = t.val / 16; rw [at7]; show t.val / 16 * 1 + _ = _; omega
  | ⟨2, _⟩ => show win0_7.index t (2 : Fin 4) * 96 + 1 * e.val = e.val; rw [at7]; show 0 * 96 + _ = _; omega
  | ⟨3, _⟩ => show win0_7.index t (3 : Fin 4) * 8192 + 1 * x.val = 8192 * (t.val % 8) + x.val; rw [at7]; show t.val % 8 * 8192 + _ = _; omega

/-! ## The rows a point reads of the prepared arrays -/

theorem off1_at : ∀ t : Fin cfg0.N, k0_off1 (grid0.coords t) = ![t.val / 8 % 2, t.val / 16] := (by decide +kernel : ∀ t : Fin grid0.N, _)
theorem off2_at : ∀ t : Fin cfg0.N, k0_off2 (grid0.coords t) = ![t.val / 16, 0, 0] := (by decide +kernel : ∀ t : Fin grid0.N, _)
theorem off3_at : ∀ t : Fin cfg0.N, k0_off3 (grid0.coords t) = ![2 * (t.val / 16) + t.val / 8 % 2, 0, 0] := (by decide +kernel : ∀ t : Fin grid0.N, _)
theorem off4_at : ∀ t : Fin cfg0.N, k0_off4 (grid0.coords t) = ![2 * (t.val / 16) + t.val / 8 % 2, 0, 0] := (by decide +kernel : ∀ t : Fin grid0.N, _)
theorem off5_at : ∀ t : Fin cfg0.N, k0_off5 (grid0.coords t) = ![2 * (t.val / 16) + t.val / 8 % 2, 0, 0] := (by decide +kernel : ∀ t : Fin grid0.N, _)
theorem off6_at : ∀ t : Fin cfg0.N, k0_off6 (grid0.coords t) = ![2 * (t.val / 16) + t.val / 8 % 2, 0, 0] := (by decide +kernel : ∀ t : Fin grid0.N, _)

/-- A one-row read of an array made of rows is an entry of the row. -/
theorem readRow {n p q : ℕ} {e : EltTy} (v : Fin n → Vec Ideal (⟨3, ![1, p, q]⟩ : Shape) e) (o : Fin 3 → ℕ)
    (hb : ∀ a, o a + (![1, p, q] : Fin 3 → ℕ) a ≤ (⟨3, ![n, p, q]⟩ : Shape).size a) (i : Fin n) (h : o = ![i.val, 0, 0]) (x : Fin p) (y : Fin q) :
    ofRows v ((Rect.unit (s := (⟨3, ![n, p, q]⟩ : Shape)) o ![1, p, q] hb).toLoadRect.idx (ix3 0 x y)) = v i (ix3 0 x y) := by
  subst h
  refine (congrArg (ofRows v) (show _ = ix3 i x y from funext fun a => Fin.ext ?_)).trans rfl
  match a with
  | ⟨0, _⟩ => show i.val + 1 * 0 = i.val; omega
  | ⟨1, _⟩ => show 0 + 1 * x.val = x.val; omega
  | ⟨2, _⟩ => show 0 + 1 * y.val = y.val; omega

variable {m}

theorem tileAt_At {c : Dev nD} (ha : (argsOf m c).Bounded) (t : Fin cfg0.N) (A : Vec Ideal S96x128 .f32) :
    Tile.At (argsOf m c) (ptB t) (ptH t) (ptN t) (tileAt m c t A) where
  ks := by
    unfold tileAt tileOf
    rw [iblk0_eq]
    refine congrArg (argsOf m c).ks (funext fun a => Fin.ext ?_)
    match a with
    | ⟨0, _⟩ => show k0_off1 (grid0.coords t) 0 + 1 * 0 = t.val / 8 % 2; rw [off1_at]; rfl
    | ⟨1, _⟩ => show k0_off1 (grid0.coords t) 1 + 1 * 0 = t.val / 16; rw [off1_at]; rfl
  kb k e j := by
    refine Eq.trans (congrArg (iblk m c 6 t) (funext fun a => Fin.ext ?_)) ((iblk6_apply m c t e ⟨256 * k.val + j.val, by omega⟩).trans
      (congrArg (argsOf m c).k (congrArg (fun x => ix4 (ptB t) x (ptH t) e) (Fin.ext (Nat.add_assoc _ _ _).symm))))
    match a with
    | ⟨0, _⟩ => rfl
    | ⟨1, _⟩ => rfl
    | ⟨2, _⟩ => show 0 + 1 * e.val = e.val; omega
    | ⟨3, _⟩ => show 256 * k.val + 1 * j.val = 256 * k.val + j.val; omega
  vb k e j := by
    refine Eq.trans (congrArg (iblk m c 7 t) (funext fun a => Fin.ext ?_)) ((iblk7_apply m c t e ⟨256 * k.val + j.val, by omega⟩).trans
      (congrArg (argsOf m c).v (congrArg (fun x => ix4 (ptB t) x (ptH t) e) (Fin.ext (Nat.add_assoc _ _ _).symm))))
    match a with
    | ⟨0, _⟩ => rfl
    | ⟨1, _⟩ => rfl
    | ⟨2, _⟩ => show 0 + 1 * e.val = e.val; omega
    | ⟨3, _⟩ => show 256 * k.val + 1 * j.val = 256 * k.val + j.val; omega
  q l e := by
    refine (readRow (qRow (iblk m c 2 p0)) _ (k0_off2_inb _) (ptH t) (off2_at t) l e).trans ?_
    rw [iblk2_eq]; exact qRow_apply _ l e
  dl l e := by
    refine (readRow (dlRow (iblk m c 3 p0)) _ (k0_off3_inb _) (krow (ptB t) (ptH t)) (off3_at t) _ e).trans ?_
    rw [iblk3_eq, dlRow_apply ha, bt_krow, hd_krow]
  gq l e := by
    refine (readRow (gRow (iblk m c 2 p0) (iblk m c 3 p0)) _ (k0_off6_inb _) (krow (ptB t) (ptH t)) (off6_at t) _ _).trans ?_
    rw [iblk2_eq, iblk3_eq, gRow_q, hd_krow]
  gq0 l e := by
    refine (readRow (gRow (iblk m c 2 p0) (iblk m c 3 p0)) _ (k0_off6_inb _) (krow (ptB t) (ptH t)) (off6_at t) _ _).trans ?_
    rw [iblk2_eq, iblk3_eq, gRow_q0]
  gd0 l e := by
    refine (readRow (gRow (iblk m c 2 p0) (iblk m c 3 p0)) _ (k0_off6_inb _) (krow (ptB t) (ptH t)) (off6_at t) _ _).trans ?_
    rw [iblk2_eq, iblk3_eq, gRow_d0]
  gd l e := by
    refine (readRow (gRow (iblk m c 2 p0) (iblk m c 3 p0)) _ (k0_off6_inb _) (krow (ptB t) (ptH t)) (off6_at t) _ _).trans ?_
    rw [iblk2_eq, iblk3_eq, gRow_d ha, bt_krow, hd_krow]
  lse l j := by
    refine (readRow (lseRow (iblk m c 5 p0)) _ (k0_off4_inb _) (krow (ptB t) (ptH t)) (off4_at t) l j).trans ?_
    rw [iblk5_eq, lseRow_apply, bt_krow, hd_krow]
  dlt l j := by
    refine (readRow (dltRow (iblk m c 3 p0) (iblk m c 4 p0)) _ (k0_off4_inb _) (krow (ptB t) (ptH t)) (off4_at t) l j).trans ?_
    rw [iblk3_eq, iblk4_eq, dltRow_apply ha, bt_krow, hd_krow]
  dps := by
    refine (readRow (dpsRow (iblk m c 3 p0) (iblk m c 1 p0)) _ (k0_off5_inb _) (krow (ptB t) (ptH t)) (off5_at t) 0 0).trans ?_
    rw [iblk3_eq, iblk1_eq, dpsRow_apply ha, bt_krow, hd_krow]
  dos := by
    refine (readRow (dosRow (iblk m c 3 p0)) _ (k0_off5_inb _) (krow (ptB t) (ptH t)) (off5_at t) 0 0).trans ?_
    rw [iblk3_eq, dosRow_apply ha, bt_krow, hd_krow]

end Cert.KernelIdeal.Gen

end
-- ==== Proof.KernelArrays.lean ====
/- The kernel's six result arrays after the run, as the mathematics of the eight arguments. -/
module

public import proofs.«01_k».proof.Proof.KernelValue
public import Idealize.ShloMosaic.Lib.Pipeline.ValueKit.Geometry

@[expose] public section

set_option maxRecDepth 16384

noncomputable section

namespace Cert.KernelIdeal.Gen

open Cert.KernelIdeal Idealize.ShloMosaic Idealize.ShloMosaic.TcCoe Idealize.ShloMosaic.ValueIdx Cert.Spec
open Idealize.ShloMosaic.Tactic Idealize.ShloMosaic.StableHlo Idealize.SL Idealize.SL.Sem
open Idealize.ShloMosaic.Pipeline (Dat Cfg Window)

variable {m : (ℓ : Loc nD τ sig) → Buf (Elt Ideal) ℓ} {c : Dev nD} (ha : (argsOf m c).Bounded)

/-! ## The running sum over the blocks of a head and batch -/

/-- A tile's running sum at entry is the one it is given. -/
theorem tileAt_acc (t : Fin cfg0.N) (A : Vec Ideal S96x128 .f32) (e : Fin 96) (l : Fin 128) : (tileAt m c t A).acc (ix2 e l) = A (ix2 e l) := by
  unfold tileAt tileOf
  refine congrArg A (funext fun a => Fin.ext ?_)
  match a with
  | ⟨0, _⟩ => show 0 + 1 * e.val = e.val; omega
  | ⟨1, _⟩ => show 0 + 1 * l.val = l.val; omega

/-- The sum a head and batch starts from. -/
theorem acc_zero (y : S96x128.Idx) : k0_pay351 (F := Ideal) y = 0 := by
  unfold k0_pay351
  refine (cast_self_apply _ shapeCasts_S96x128_S96x128 y).trans ?_
  show Ideal.ofBits .f32 0x00000000#32 = 0
  exact Ideal.ofBits_zero_f32

include ha

/-- After a point the running sum holds the products of every key so far. -/
theorem accOut_at (e : Fin 96) (l : Fin 120) : ∀ (n : ℕ) (hn : n < cfg0.N),
    (tileT m c ⟨n, hn⟩).accOut (ix2 e ⟨l.val, by omega⟩)
      = ∑ x ∈ Finset.range (8192 * (n % 8 + 1)), Tile.At.part (argsOf m c) (ptB ⟨n, hn⟩) (ptH ⟨n, hn⟩) l e x := by
  intro n
  induction n with
  | zero =>
    intro hn
    rw [tileT_start m c _ rfl, (tileAt_At ha _ _).accOut_apply e l, tileAt_acc, acc_zero, zero_add]
    exact Finset.sum_congr rfl fun x _ => congrArg _ (Nat.zero_add x)
  | succ n ih =>
    intro hn
    by_cases h0 : (n + 1) % 8 = 0
    · rw [tileT_start m c _ h0, (tileAt_At ha _ _).accOut_apply e l, tileAt_acc, acc_zero, zero_add, h0]
      refine Finset.sum_congr rfl fun x _ => congrArg _ ?_
      show 8192 * ((n + 1) % 8) + x = x
      omega
    · have hn' : n < cfg0.N := Nat.lt_of_succ_lt hn
      have hB : ptB ⟨n + 1, hn⟩ = ptB ⟨n, hn'⟩ := Fin.ext (by show (n + 1) / 8 % 2 = n / 8 % 2; omega)
      have hH : ptH ⟨n + 1, hn⟩ = ptH ⟨n, hn'⟩ := Fin.ext (by show (n + 1) / 16 = n / 16; omega)
      rw [tileT_go m c _ h0, (tileAt_At ha _ _).accOut_apply e l, tileAt_acc]
      show accLeft m c (n + 1) _ + _ = _
      rw [accLeft_succ m c ⟨n, hn'⟩, ih hn', hB, hH, show 8192 * ((n + 1) % 8 + 1) = 8192 * (n % 8 + 1) + 8192 by omega, Finset.sum_range_add]
      refine congrArg₂ _ rfl (Finset.sum_congr rfl fun x _ => congrArg _ ?_)
      show 8192 * ((n + 1) % 8) + x = _
      omega

/-- After the last block it holds the sum over all keys. -/
theorem accOut_last (t : Fin cfg0.N) (h7 : t.val % 8 = 7) (e : Fin 96) (l : Fin 120) :
    (tileT m c t).accOut (ix2 e ⟨l.val, by omega⟩)
      = ∑ x : Fin 65536, (argsOf m c).ds (ptB t) (ptH t) l x * (argsOf m c).k (ix4 (ptB t) x (ptH t) e) := by
  refine (accOut_at ha e l t.val t.isLt).trans ?_
  rw [h7, show 8192 * (7 + 1) = 65536 from rfl, Finset.sum_range]
  refine Finset.sum_congr rfl fun x _ => ?_
  unfold Tile.At.part
  rw [dif_pos x.isLt]

theorem tileT_At (t : Fin cfg0.N) : Tile.At (argsOf m c) (ptB t) (ptH t) (ptN t) (tileT m c t) := tileAt_At ha t _

/-- The query gradient of one batch, as the last block of a head and batch leaves it. -/
theorem dqs_at (t : Fin cfg0.N) (h7 : t.val % 8 = 7) (e : Fin 96) (l : Fin 120) :
    (tileT m c t).dqs (ix4 0 0 e l) = (argsOf m c).dqs (ptB t) l (ptH t) e := by
  refine (dqsOf_apply _ _ e l).trans ?_
  rw [(tileT_At ha t).ks, accOut_last ha t h7]
  rfl

/-- The query gradient over both batches. -/
theorem dq_at (t : Fin cfg0.N) (h15 : t.val % 16 = 15) (e : Fin 96) (l : Fin 120) :
    dqT m c t (ix3 0 e l) = (argsOf m c).dq l (ptH t) e := by
  have ht : t.val - 8 < cfg0.N := lt_of_le_of_lt (Nat.sub_le _ _) t.isLt
  have hH : ptH ⟨t.val - 8, ht⟩ = ptH t := Fin.ext (by show (t.val - 8) / 16 = t.val / 16; omega)
  have hB0 : ptB ⟨t.val - 8, ht⟩ = 0 := Fin.ext (by show (t.val - 8) / 8 % 2 = 0; omega)
  have hB1 : ptB t = 1 := Fin.ext (by show t.val / 8 % 2 = 1; omega)
  have hfirst : batchSum m c (t.val / 16) (ix2 e l) = (argsOf m c).dqs 0 l (ptH t) e := by
    rw [show t.val / 16 = (⟨t.val - 8, ht⟩ : Fin cfg0.N).val / 16 by show _ = (t.val - 8) / 16; omega,
      batchSum_eq m c ⟨t.val - 8, ht⟩ (by show (t.val - 8) % 16 = 7; omega) (constant (F := Ideal) S96x120 .f32 0x00000000#32)]
    refine (sumOf_first _ _ _ e l).trans ?_
    rw [(tileT_At ha _).ks, accOut_last ha _ (by show (t.val - 8) % 8 = 7; omega), hH, hB0]
    rfl
  unfold dqT
  rw [coords_1, show t.val / 8 % 2 = 1 by omega]
  refine (dqOf_apply _ e l).trans ((sumOf_next _ _ _ e l).trans ?_)
  rw [hfirst, (tileT_At ha t).ks, accOut_last ha t (by omega), hB1]
  rfl

/-- A point's block of the key gradient. -/
theorem dk_at (t : Fin cfg0.N) (e : Fin 96) (x : Fin 8192) :
    blockOf (tileT m c t).dk (ix4 0 0 e x) = (argsOf m c).dk (ptB t) ⟨8192 * (ptN t).val + x.val, by omega⟩ (ptH t) e := by
  refine ((tileT_At ha t).dk_apply ⟨x.val / 256, by omega⟩ e ⟨x.val % 256, by omega⟩).trans ?_
  refine congrArg (fun n => (argsOf m c).dk (ptB t) n (ptH t) e) (Fin.ext ?_)
  show 8192 * (ptN t).val + 256 * (x.val / 256) + x.val % 256 = 8192 * (ptN t).val + x.val
  omega

/-- A point's block of the value gradient. -/
theorem dv_at (t : Fin cfg0.N) (e : Fin 96) (x : Fin 8192) :
    blockOf (tileT m c t).dv (ix4 0 0 e x) = (argsOf m c).dv (ptB t) ⟨8192 * (ptN t).val + x.val, by omega⟩ (ptH t) e := by
  refine ((tileT_At ha t).dv_apply ⟨x.val / 256, by omega⟩ e ⟨x.val % 256, by omega⟩).trans ?_
  refine congrArg (fun n => (argsOf m c).dv (ptB t) n (ptH t) e) (Fin.ext ?_)
  show 8192 * (ptN t).val + 256 * (x.val / 256) + x.val % 256 = 8192 * (ptN t).val + x.val
  omega

omit ha

/-! ## The arrays -/

theorem at8 : ∀ t : Fin cfg0.N, win0_8.index t = ![t.val / 16, 0, 0] := (by decide +kernel : ∀ t : Fin grid0.N, _)
theorem at9 : ∀ t : Fin cfg0.N, win0_9.index t = ![t.val / 8 % 2, t.val / 16, 0, 0] := (by decide +kernel : ∀ t : Fin grid0.N, _)
theorem at10 : ∀ t : Fin cfg0.N, win0_10.index t = ![t.val / 8 % 2, t.val / 16, 0, t.val % 8] := (by decide +kernel : ∀ t : Fin grid0.N, _)
theorem at11 : ∀ t : Fin cfg0.N, win0_11.index t = ![t.val / 8 % 2, t.val / 16, 0, t.val % 8] := (by decide +kernel : ∀ t : Fin grid0.N, _)
theorem at12 : ∀ t : Fin cfg0.N, win0_12.index t = ![0, 0, 0, 0] := (by decide +kernel : ∀ t : Fin grid0.N, _)
theorem at13 : ∀ t : Fin cfg0.N, win0_13.index t = ![0, 0] := (by decide +kernel : ∀ t : Fin grid0.N, _)

theorem emb8 (t : Fin cfg0.N) (e : Fin 96) (l : Fin 120) : ((cfg0.win 8).blk t).view.emb (ix3 0 e l) = ix3 (ptH t) e l := by
  funext a; apply Fin.ext
  match a with
  | ⟨0, _⟩ => show win0_8.index t (0 : Fin 3) * 1 + 1 * 0 = t.val / 16; rw [at8]; show t.val / 16 * 1 + _ = _; omega
  | ⟨1, _⟩ => show win0_8.index t (1 : Fin 3) * 96 + 1 * e.val = e.val; rw [at8]; show 0 * 96 + _ = _; omega
  | ⟨2, _⟩ => show win0_8.index t (2 : Fin 3) * 120 + 1 * l.val = l.val; rw [at8]; show 0 * 120 + _ = _; omega

theorem emb9 (t : Fin cfg0.N) (e : Fin 96) (l : Fin 120) : ((cfg0.win 9).blk t).view.emb (ix4 0 0 e l) = ix4 (ptB t) (ptH t) e l := by
  funext a; apply Fin.ext
  match a with
  | ⟨0, _⟩ => show win0_9.index t (0 : Fin 4) * 1 + 1 * 0 = t.val / 8 % 2; rw [at9]; show t.val / 8 % 2 * 1 + _ = _; omega
  | ⟨1, _⟩ => show win0_9.index t (1 : Fin 4) * 1 + 1 * 0 = t.val / 16; rw [at9]; show t.val / 16 * 1 + _ = _; omega
  | ⟨2, _⟩ => show win0_9.index t (2 : Fin 4) * 96 + 1 * e.val = e.val; rw [at9]; show 0 * 96 + _ = _; omega
  | ⟨3, _⟩ => show win0_9.index t (3 : Fin 4) * 120 + 1 * l.val = l.val; rw [at9]; show 0 * 120 + _ = _; omega

theorem emb10 (t : Fin cfg0.N) (e : Fin 96) (x : Fin 8192) :
    ((cfg0.win 10).blk t).view.emb (ix4 0 0 e x) = ix4 (ptB t) (ptH t) e ⟨8192 * (ptN t).val + x.val, by omega⟩ := by
  funext a; apply Fin.ext
  match a with
  | ⟨0, _⟩ => show win0_10.index t (0 : Fin 4) * 1 + 1 * 0 = t.val / 8 % 2; rw [at10]; show t.val / 8 % 2 * 1 + _ = _; omega
  | ⟨1, _⟩ => show win0_10.index t (1 : Fin 4) * 1 + 1 * 0 = t.val / 16; rw [at10]; show t.val / 16 * 1 + _ = _; omega
  | ⟨2, _⟩ => show win0_10.index t (2 : Fin 4) * 96 + 1 * e.val = e.val; rw [at10]; show 0 * 96 + _ = _; omega
  | ⟨3, _⟩ => show win0_10.index t (3 : Fin 4) * 8192 + 1 * x.val = 8192 * (t.val % 8) + x.val; rw [at10]; show t.val % 8 * 8192 + _ = _; omega

theorem emb11 (t : Fin cfg0.N) (e : Fin 96) (x : Fin 8192) :
    ((cfg0.win 11).blk t).view.emb (ix4 0 0 e x) = ix4 (ptB t) (ptH t) e ⟨8192 * (ptN t).val + x.val, by omega⟩ := by
  funext a; apply Fin.ext
  match a with
  | ⟨0, _⟩ => show win0_11.index t (0 : Fin 4) * 1 + 1 * 0 = t.val / 8 % 2; rw [at11]; show t.val / 8 % 2 * 1 + _ = _; omega
  | ⟨1, _⟩ => show win0_11.index t (1 : Fin 4) * 1 + 1 * 0 = t.val / 16; rw [at11]; show t.val / 16 * 1 + _ = _; omega
  | ⟨2, _⟩ => show win0_11.index t (2 : Fin 4) * 96 + 1 * e.val = e.val; rw [at11]; show 0 * 96 + _ = _; omega
  | ⟨3, _⟩ => show win0_11.index t (3 : Fin 4) * 8192 + 1 * x.val = 8192 * (t.val % 8) + x.val; rw [at11]; show t.val % 8 * 8192 + _ = _; omega

theorem emb12 (t : Fin cfg0.N) (j : S2x10x96x120.Idx) : ((cfg0.win 12).blk t).view.emb j = j := by
  funext a; apply Fin.ext
  match a with
  | ⟨0, _⟩ => show win0_12.index t (0 : Fin 4) * 2 + 1 * (j 0).val = (j 0).val; rw [at12]; show 0 * 2 + _ = _; omega
  | ⟨1, _⟩ => show win0_12.index t (1 : Fin 4) * 10 + 1 * (j 1).val = (j 1).val; rw [at12]; show 0 * 10 + _ = _; omega
  | ⟨2, _⟩ => show win0_12.index t (2 : Fin 4) * 96 + 1 * (j 2).val = (j 2).val; rw [at12]; show 0 * 96 + _ = _; omega
  | ⟨3, _⟩ => show win0_12.index t (3 : Fin 4) * 120 + 1 * (j 3).val = (j 3).val; rw [at12]; show 0 * 120 + _ = _; omega

theorem emb13 (t : Fin cfg0.N) (j : S2x10.Idx) : ((cfg0.win 13).blk t).view.emb j = j := by
  funext a; apply Fin.ext
  match a with
  | ⟨0, _⟩ => show win0_13.index t (0 : Fin 2) * 2 + 1 * (j 0).val = (j 0).val; rw [at13]; show 0 * 2 + _ = _; omega
  | ⟨1, _⟩ => show win0_13.index t (1 : Fin 2) * 10 + 1 * (j 1).val = (j 1).val; rw [at13]; show 0 * 10 + _ = _; omega

/-- The arrays' contents, in the order of axes the kernel writes them in. -/
def A8 (a : Args) : Vec Ideal S10x96x120 .bf16 := fun y => a.dq (y 2) (y 0) (y 1)
def A9 (a : Args) : Vec Ideal S2x10x96x120 .f32 := fun y => a.dqs (y 0) (y 3) (y 1) (y 2)
def A10 (a : Args) : Vec Ideal S2x10x96x65536 .bf16 := fun y => a.dk (y 0) (y 3) (y 1) (y 2)
def A11 (a : Args) : Vec Ideal S2x10x96x65536 .bf16 := fun y => a.dv (y 0) (y 3) (y 1) (y 2)
def A12 (a : Args) : Vec Ideal S2x10x96x120 .fp8e5m2 := fun y => a.code (y 0) (y 1) (y 3) (y 2)
def A13 (a : Args) : Vec Ideal S2x10 .f32 := fun y => a.scale (y 0) (y 1)

include ha

theorem final8 : (dats m 0 c).arrAt 8 cfg0.N = A8 (argsOf m c) := by
  refine (dats m 0 c).arrAt_eq_of_covers 8 (A8 (argsOf m c)) (by decide +kernel) fun t hf y => ?_
  obtain ⟨e, l, hy⟩ : ∃ (e : Fin 96) (l : Fin 120), y = ix3 0 e l := ⟨y 1, y 2, by
    refine (eq_ix3 y).trans ?_; exact congrArg (fun z => ix3 z (y 1) (y 2)) (Fin.ext (Nat.lt_one_iff.mp (y 0).isLt))⟩
  subst hy
  show (dats m 0 c).after 8 t (ix3 0 e l) = A8 (argsOf m c) (((cfg0.win 8).blk t).view.emb (ix3 0 e l))
  rw [after0_8, emb8]
  exact dq_at ha t ((flush0_8 t).mp hf) e l

theorem final9 : (dats m 0 c).arrAt 9 cfg0.N = A9 (argsOf m c) := by
  refine (dats m 0 c).arrAt_eq_of_covers 9 (A9 (argsOf m c)) (by decide +kernel) fun t hf y => ?_
  obtain ⟨e, l, hy⟩ : ∃ (e : Fin 96) (l : Fin 120), y = ix4 0 0 e l := ⟨y 2, y 3, by
    refine (eq_ix4 y).trans ?_
    exact congrArg₂ (fun z w => ix4 z w (y 2) (y 3)) (Fin.ext (Nat.lt_one_iff.mp (y 0).isLt)) (Fin.ext (Nat.lt_one_iff.mp (y 1).isLt))⟩
  subst hy
  show (dats m 0 c).after 9 t (ix4 0 0 e l) = A9 (argsOf m c) (((cfg0.win 9).blk t).view.emb (ix4 0 0 e l))
  rw [after0_9, emb9]
  exact dqs_at ha t ((flush0_9 t).mp hf) e l

theorem final10 : (dats m 0 c).arrAt 10 cfg0.N = A10 (argsOf m c) := by
  refine (dats m 0 c).arrAt_eq_of_covers 10 (A10 (argsOf m c)) (by decide +kernel) fun t hf y => ?_
  obtain ⟨e, x, hy⟩ : ∃ (e : Fin 96) (x : Fin 8192), y = ix4 0 0 e x := ⟨y 2, y 3, by
    refine (eq_ix4 y).trans ?_
    exact congrArg₂ (fun z w => ix4 z w (y 2) (y 3)) (Fin.ext (Nat.lt_one_iff.mp (y 0).isLt)) (Fin.ext (Nat.lt_one_iff.mp (y 1).isLt))⟩
  subst hy
  show (dats m 0 c).after 10 t (ix4 0 0 e x) = A10 (argsOf m c) (((cfg0.win 10).blk t).view.emb (ix4 0 0 e x))
  rw [after0_10, emb10]
  exact dk_at ha t e x

theorem final11 : (dats m 0 c).arrAt 11 cfg0.N = A11 (argsOf m c) := by
  refine (dats m 0 c).arrAt_eq_of_covers 11 (A11 (argsOf m c)) (by decide +kernel) fun t hf y => ?_
  obtain ⟨e, x, hy⟩ : ∃ (e : Fin 96) (x : Fin 8192), y = ix4 0 0 e x := ⟨y 2, y 3, by
    refine (eq_ix4 y).trans ?_
    exact congrArg₂ (fun z w => ix4 z w (y 2) (y 3)) (Fin.ext (Nat.lt_one_iff.mp (y 0).isLt)) (Fin.ext (Nat.lt_one_iff.mp (y 1).isLt))⟩
  subst hy
  show (dats m 0 c).after 11 t (ix4 0 0 e x) = A11 (argsOf m c) (((cfg0.win 11).blk t).view.emb (ix4 0 0 e x))
  rw [after0_11, emb11]
  exact dv_at ha t e x

theorem final12 : (dats m 0 c).arrAt 12 cfg0.N = A12 (argsOf m c) := by
  refine (dats m 0 c).arrAt_eq_of_covers 12 (A12 (argsOf m c)) (by decide +kernel) fun t hf y => ?_
  show (dats m 0 c).after 12 t y = A12 (argsOf m c) (((cfg0.win 12).blk t).view.emb y)
  rw [after0_12, emb12, iblk3_eq]
  exact (congrArg (prepCodes (F := Ideal) (td (argsOf m c))) (eq_ix4 y)).trans (prepCodes_apply ha (y 0) (y 1) (y 2) (y 3))

theorem final13 : (dats m 0 c).arrAt 13 cfg0.N = A13 (argsOf m c) := by
  refine (dats m 0 c).arrAt_eq_of_covers 13 (A13 (argsOf m c)) (by decide +kernel) fun t hf y => ?_
  show (dats m 0 c).after 13 t y = A13 (argsOf m c) (((cfg0.win 13).blk t).view.emb y)
  rw [after0_13, emb13, iblk3_eq]
  exact (congrArg (prepScales (F := Ideal) (td (argsOf m c))) (eq_ix2 y)).trans (prepScales_apply ha (y 0) (y 1))

/-! ## The results, after the host transposes -/

omit ha

theorem tail7 : Pipeline.afterTail₀ cfgs (dats m) 0 (V0 m) [hostOps1] c main_v7
    = transpose S120x10x96 [2, 0, 1] ((dats m 0 c).arrAt 8 cfg0.N) transposes_S10x96x120_S120x10x96_2_0_1 := by
  unfold Pipeline.afterTail₀
  simp only [List.flatten_cons, List.flatten_nil, List.append_nil]
  after_results
  exact congrArg (transpose S120x10x96 [2, 0, 1] · transposes_S10x96x120_S120x10x96_2_0_1) (Pipeline.withArrays_arr spec0 (by decide) c _ _ 8)

theorem tail8 : Pipeline.afterTail₀ cfgs (dats m) 0 (V0 m) [hostOps1] c main_v8
    = transpose S2x120x10x96 [0, 3, 1, 2] ((dats m 0 c).arrAt 9 cfg0.N) transposes_S2x10x96x120_S2x120x10x96_0_3_1_2 := by
  unfold Pipeline.afterTail₀
  simp only [List.flatten_cons, List.flatten_nil, List.append_nil]
  after_results
  exact congrArg (transpose S2x120x10x96 [0, 3, 1, 2] · transposes_S2x10x96x120_S2x120x10x96_0_3_1_2) (Pipeline.withArrays_arr spec0 (by decide) c _ _ 9)

theorem tail9 : Pipeline.afterTail₀ cfgs (dats m) 0 (V0 m) [hostOps1] c main_v9
    = transpose S2x65536x10x96 [0, 3, 1, 2] ((dats m 0 c).arrAt 10 cfg0.N) transposes_S2x10x96x65536_S2x65536x10x96_0_3_1_2 := by
  unfold Pipeline.afterTail₀
  simp only [List.flatten_cons, List.flatten_nil, List.append_nil]
  after_results
  exact congrArg (transpose S2x65536x10x96 [0, 3, 1, 2] · transposes_S2x10x96x65536_S2x65536x10x96_0_3_1_2) (Pipeline.withArrays_arr spec0 (by decide) c _ _ 10)

theorem tail10 : Pipeline.afterTail₀ cfgs (dats m) 0 (V0 m) [hostOps1] c main_v10
    = transpose S2x65536x10x96 [0, 3, 1, 2] ((dats m 0 c).arrAt 11 cfg0.N) transposes_S2x10x96x65536_S2x65536x10x96_0_3_1_2 := by
  unfold Pipeline.afterTail₀
  simp only [List.flatten_cons, List.flatten_nil, List.append_nil]
  after_results
  exact congrArg (transpose S2x65536x10x96 [0, 3, 1, 2] · transposes_S2x10x96x65536_S2x65536x10x96_0_3_1_2) (Pipeline.withArrays_arr spec0 (by decide) c _ _ 11)

theorem tail11 : Pipeline.afterTail₀ cfgs (dats m) 0 (V0 m) [hostOps1] c main_v11
    = transpose S2x120x10x96 [0, 3, 1, 2] ((dats m 0 c).arrAt 12 cfg0.N) transposes_S2x10x96x120_S2x120x10x96_0_3_1_2 := by
  unfold Pipeline.afterTail₀
  simp only [List.flatten_cons, List.flatten_nil, List.append_nil]
  after_results
  exact congrArg (transpose S2x120x10x96 [0, 3, 1, 2] · transposes_S2x10x96x120_S2x120x10x96_0_3_1_2) (Pipeline.withArrays_arr spec0 (by decide) c _ _ 12)

/-- The results as arrays of the arguments, in the axes @main returns them in. -/
def R0 (a : Args) : Vec Ideal S120x10x96 .bf16 := fun y => a.dq (y 0) (y 1) (y 2)
def R1 (a : Args) : Vec Ideal S2x120x10x96 .f32 := fun y => a.dqs (y 0) (y 1) (y 2) (y 3)
def R2 (a : Args) : Vec Ideal S2x65536x10x96 .bf16 := fun y => a.dk (y 0) (y 1) (y 2) (y 3)
def R3 (a : Args) : Vec Ideal S2x65536x10x96 .bf16 := fun y => a.dv (y 0) (y 1) (y 2) (y 3)
def R4 (a : Args) : Vec Ideal S2x120x10x96 .fp8e5m2 := fun y => a.code (y 0) (y 2) (y 1) (y 3)

theorem R0_eq (a : Args) : transpose S120x10x96 [2, 0, 1] (A8 a) transposes_S10x96x120_S120x10x96_2_0_1 = R0 a :=
  funext fun y => (transpose_apply _ (A8 a) transposes_S10x96x120_S120x10x96_2_0_1 y (ix3 (y 1) (y 2) (y 0)) (fun x => match x with | ⟨0, _⟩ => rfl | ⟨1, _⟩ => rfl | ⟨2, _⟩ => rfl)).trans rfl
theorem R1_eq (a : Args) : transpose S2x120x10x96 [0, 3, 1, 2] (A9 a) transposes_S2x10x96x120_S2x120x10x96_0_3_1_2 = R1 a :=
  funext fun y => (transpose_apply _ (A9 a) transposes_S2x10x96x120_S2x120x10x96_0_3_1_2 y (ix4 (y 0) (y 2) (y 3) (y 1)) (fun x => match x with | ⟨0, _⟩ => rfl | ⟨1, _⟩ => rfl | ⟨2, _⟩ => rfl | ⟨3, _⟩ => rfl)).trans rfl
theorem R2_eq (a : Args) : transpose S2x65536x10x96 [0, 3, 1, 2] (A10 a) transposes_S2x10x96x65536_S2x65536x10x96_0_3_1_2 = R2 a :=
  funext fun y => (transpose_apply _ (A10 a) transposes_S2x10x96x65536_S2x65536x10x96_0_3_1_2 y (ix4 (y 0) (y 2) (y 3) (y 1)) (fun x => match x with | ⟨0, _⟩ => rfl | ⟨1, _⟩ => rfl | ⟨2, _⟩ => rfl | ⟨3, _⟩ => rfl)).trans rfl
theorem R3_eq (a : Args) : transpose S2x65536x10x96 [0, 3, 1, 2] (A11 a) transposes_S2x10x96x65536_S2x65536x10x96_0_3_1_2 = R3 a :=
  funext fun y => (transpose_apply _ (A11 a) transposes_S2x10x96x65536_S2x65536x10x96_0_3_1_2 y (ix4 (y 0) (y 2) (y 3) (y 1)) (fun x => match x with | ⟨0, _⟩ => rfl | ⟨1, _⟩ => rfl | ⟨2, _⟩ => rfl | ⟨3, _⟩ => rfl)).trans rfl
theorem R4_eq (a : Args) : transpose S2x120x10x96 [0, 3, 1, 2] (A12 a) transposes_S2x10x96x120_S2x120x10x96_0_3_1_2 = R4 a :=
  funext fun y => (transpose_apply _ (A12 a) transposes_S2x10x96x120_S2x120x10x96_0_3_1_2 y (ix4 (y 0) (y 2) (y 3) (y 1)) (fun x => match x with | ⟨0, _⟩ => rfl | ⟨1, _⟩ => rfl | ⟨2, _⟩ => rfl | ⟨3, _⟩ => rfl)).trans rfl

omit c

variable (ρ : Dev nD → PrngReg)

/-- The run, read: on bounded incoming gradients the six results hold the mathematics, and the arguments are unchanged. -/
theorem run (hb : ∀ c : Dev nD, (argsOf m c).Bounded) : θ_run defs (onTc (τ := τ) (main (F := Ideal))) ⟨m, fun _ => 0, ρ⟩ fun r => ∀ c : Dev nD,
      (r.2.mem ((c : Thread nD τ).loc main_v7) = R0 (argsOf m c)
      ∧ r.2.mem ((c : Thread nD τ).loc main_v8) = R1 (argsOf m c)
      ∧ r.2.mem ((c : Thread nD τ).loc main_v9) = R2 (argsOf m c)
      ∧ r.2.mem ((c : Thread nD τ).loc main_v10) = R3 (argsOf m c)
      ∧ r.2.mem ((c : Thread nD τ).loc main_v11) = R4 (argsOf m c)
      ∧ r.2.mem ((c : Thread nD τ).loc main_v6_5) = A13 (argsOf m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨⟨
      ((h.1 c).2 main_v7 (Pipeline.mem_restRefs_of main_v7 (by decide) (by decide))).trans (tail7.trans (by rw [final8 (hb c)]; exact R0_eq _)),
      ((h.1 c).2 main_v8 (Pipeline.mem_restRefs_of main_v8 (by decide) (by decide))).trans (tail8.trans (by rw [final9 (hb c)]; exact R1_eq _)),
      ((h.1 c).2 main_v9 (Pipeline.mem_restRefs_of main_v9 (by decide) (by decide))).trans (tail9.trans (by rw [final10 (hb c)]; exact R2_eq _)),
      ((h.1 c).2 main_v10 (Pipeline.mem_restRefs_of main_v10 (by decide) (by decide))).trans (tail10.trans (by rw [final11 (hb c)]; exact R3_eq _)),
      ((h.1 c).2 main_v11 (Pipeline.mem_restRefs_of main_v11 (by decide) (by decide))).trans (tail11.trans (by rw [final12 (hb c)]; exact R4_eq _)),
      ((h.1 c).1 13).trans (final13 (hb c))⟩,
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).1 0).trans (((dats m 0 c).arrAt_in 0 rfl _).trans ((A_eq m c 0).trans (V_main_arg2 m c))),
    ((h.1 c).2 main_arg3 (Pipeline.mem_restRefs_of main_arg3 (by decide) (by decide))).trans (W_main_arg3 m (dats m) c),
    ((h.1 c).1 1).trans (((dats m 0 c).arrAt_in 1 rfl _).trans ((A_eq m c 1).trans (V_main_arg4 m c))),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c)⟩) (run_main m ρ)

end Cert.KernelIdeal.Gen

end
-- ==== Proof.RefRun.lean ====
/- The run of the reference, read: the reference has one grid point and every window of it is a whole array, so each array it
   writes is one function `G_w` of the eight argument arrays (`final_w`, `run`). -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_5) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S120x10x96.Idx) : ((cfg0.win 0).blk t).view.emb j = j := by
  obtain ⟨e0, e1, e2⟩ := idx_zero0 t
  funext a; apply Fin.ext
  match a with
  | ⟨0, _⟩ => show win0_0.index t (0 : Fin 3) * 120 + 1 * (j 0).val = (j 0).val; omega
  | ⟨1, _⟩ => show win0_0.index t (1 : Fin 3) * 10 + 1 * (j 1).val = (j 1).val; omega
  | ⟨2, _⟩ => show win0_0.index t (2 : Fin 3) * 96 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S2x65536x10x96.Idx) : ((cfg0.win 1).blk t).view.emb j = j := by
  obtain ⟨e0, e1, e2, e3⟩ := idx_zero1 t
  funext a; apply Fin.ext
  match a with
  | ⟨0, _⟩ => show win0_1.index t (0 : Fin 4) * 2 + 1 * (j 0).val = (j 0).val; omega
  | ⟨1, _⟩ => show win0_1.index t (1 : Fin 4) * 65536 + 1 * (j 1).val = (j 1).val; omega
  | ⟨2, _⟩ => show win0_1.index t (2 : Fin 4) * 10 + 1 * (j 2).val = (j 2).val; omega
  | ⟨3, _⟩ => show win0_1.index t (3 : Fin 4) * 96 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2x10.Idx) : ((cfg0.win 2).blk t).view.emb j = j := by
  obtain ⟨e0, e1⟩ := idx_zero2 t
  funext a; apply Fin.ext
  match a with
  | ⟨0, _⟩ => show win0_2.index t (0 : Fin 2) * 2 + 1 * (j 0).val = (j 0).val; omega
  | ⟨1, _⟩ => show win0_2.index t (1 : Fin 2) * 10 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S2x65536x10x96.Idx) : ((cfg0.win 3).blk t).view.emb j = j := by
  obtain ⟨e0, e1, e2, e3⟩ := idx_zero3 t
  funext a; apply Fin.ext
  match a with
  | ⟨0, _⟩ => show win0_3.index t (0 : Fin 4) * 2 + 1 * (j 0).val = (j 0).val; omega
  | ⟨1, _⟩ => show win0_3.index t (1 : Fin 4) * 65536 + 1 * (j 1).val = (j 1).val; omega
  | ⟨2, _⟩ => show win0_3.index t (2 : Fin 4) * 10 + 1 * (j 2).val = (j 2).val; omega
  | ⟨3, _⟩ => show win0_3.index t (3 : Fin 4) * 96 + 1 * (j 3).val = (j 3).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S2x10.Idx) : ((cfg0.win 4).blk t).view.emb j = j := by
  obtain ⟨e0, e1⟩ := idx_zero4 t
  funext a; apply Fin.ext
  match a with
  | ⟨0, _⟩ => show win0_4.index t (0 : Fin 2) * 2 + 1 * (j 0).val = (j 0).val; omega
  | ⟨1, _⟩ => show win0_4.index t (1 : Fin 2) * 10 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S2x120x10x96.Idx) : ((cfg0.win 5).blk t).view.emb j = j := by
  obtain ⟨e0, e1, e2, e3⟩ := idx_zero5 t
  funext a; apply Fin.ext
  match a with
  | ⟨0, _⟩ => show win0_5.index t (0 : Fin 4) * 2 + 1 * (j 0).val = (j 0).val; omega
  | ⟨1, _⟩ => show win0_5.index t (1 : Fin 4) * 120 + 1 * (j 1).val = (j 1).val; omega
  | ⟨2, _⟩ => show win0_5.index t (2 : Fin 4) * 10 + 1 * (j 2).val = (j 2).val; omega
  | ⟨3, _⟩ => show win0_5.index t (3 : Fin 4) * 96 + 1 * (j 3).val = (j 3).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x10x120.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 10 + 1 * (j 1).val = (j 1).val; omega
  | ⟨2, _⟩ => show win0_6.index t (2 : Fin 3) * 120 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S2x120x10x96.Idx) : ((cfg0.win 7).blk t).view.emb j = j := by
  obtain ⟨e0, e1, e2, e3⟩ := idx_zero7 t
  funext a; apply Fin.ext
  match a with
  | ⟨0, _⟩ => show win0_7.index t (0 : Fin 4) * 2 + 1 * (j 0).val = (j 0).val; omega
  | ⟨1, _⟩ => show win0_7.index t (1 : Fin 4) * 120 + 1 * (j 1).val = (j 1).val; omega
  | ⟨2, _⟩ => show win0_7.index t (2 : Fin 4) * 10 + 1 * (j 2).val = (j 2).val; omega
  | ⟨3, _⟩ => show win0_7.index t (3 : Fin 4) * 96 + 1 * (j 3).val = (j 3).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S120x10x96.Idx) : ((cfg0.win 8).blk t).view.emb j = j := by
  obtain ⟨e0, e1, e2⟩ := idx_zero8 t
  funext a; apply Fin.ext
  match a with
  | ⟨0, _⟩ => show win0_8.index t (0 : Fin 3) * 120 + 1 * (j 0).val = (j 0).val; omega
  | ⟨1, _⟩ => show win0_8.index t (1 : Fin 3) * 10 + 1 * (j 1).val = (j 1).val; omega
  | ⟨2, _⟩ => show win0_8.index t (2 : Fin 3) * 96 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S2x120x10x96.Idx) : ((cfg0.win 9).blk t).view.emb j = j := by
  obtain ⟨e0, e1, e2, e3⟩ := idx_zero9 t
  funext a; apply Fin.ext
  match a with
  | ⟨0, _⟩ => show win0_9.index t (0 : Fin 4) * 2 + 1 * (j 0).val = (j 0).val; omega
  | ⟨1, _⟩ => show win0_9.index t (1 : Fin 4) * 120 + 1 * (j 1).val = (j 1).val; omega
  | ⟨2, _⟩ => show win0_9.index t (2 : Fin 4) * 10 + 1 * (j 2).val = (j 2).val; omega
  | ⟨3, _⟩ => show win0_9.index t (3 : Fin 4) * 96 + 1 * (j 3).val = (j 3).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S2x65536x10x96.Idx) : ((cfg0.win 10).blk t).view.emb j = j := by
  obtain ⟨e0, e1, e2, e3⟩ := idx_zero10 t
  funext a; apply Fin.ext
  match a with
  | ⟨0, _⟩ => show win0_10.index t (0 : Fin 4) * 2 + 1 * (j 0).val = (j 0).val; omega
  | ⟨1, _⟩ => show win0_10.index t (1 : Fin 4) * 65536 + 1 * (j 1).val = (j 1).val; omega
  | ⟨2, _⟩ => show win0_10.index t (2 : Fin 4) * 10 + 1 * (j 2).val = (j 2).val; omega
  | ⟨3, _⟩ => show win0_10.index t (3 : Fin 4) * 96 + 1 * (j 3).val = (j 3).val; omega

theorem hz11 : (![0, 0, 0, 0] : Fin 4 → Nat) = fun _ => 0 := funext fun a => by fin_cases a <;> rfl

/-- Window 11's block index at the one point is zero on every axis. -/
theorem idx_zero11 : ∀ t : Fin cfg0.N, win0_11.index t (0 : Fin 4) = 0 ∧ win0_11.index t (1 : Fin 4) = 0 ∧ win0_11.index t (2 : Fin 4) = 0 ∧ win0_11.index t (3 : Fin 4) = 0 :=
  (by decide +kernel : ∀ t : Fin grid0.N, _)

/-- An index of window 11's block is the same index of its array. -/
theorem emb11 (t : Fin cfg0.N) (j : S2x65536x10x96.Idx) : ((cfg0.win 11).blk t).view.emb j = j := by
  obtain ⟨e0, e1, e2, e3⟩ := idx_zero11 t
  funext a; apply Fin.ext
  match a with
  | ⟨0, _⟩ => show win0_11.index t (0 : Fin 4) * 2 + 1 * (j 0).val = (j 0).val; omega
  | ⟨1, _⟩ => show win0_11.index t (1 : Fin 4) * 65536 + 1 * (j 1).val = (j 1).val; omega
  | ⟨2, _⟩ => show win0_11.index t (2 : Fin 4) * 10 + 1 * (j 2).val = (j 2).val; omega
  | ⟨3, _⟩ => show win0_11.index t (3 : Fin 4) * 96 + 1 * (j 3).val = (j 3).val; omega

theorem hz12 : (![0, 0, 0, 0] : Fin 4 → Nat) = fun _ => 0 := funext fun a => by fin_cases a <;> rfl

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S2x120x10x96.Idx) : ((cfg0.win 12).blk t).view.emb j = j := by
  obtain ⟨e0, e1, e2, e3⟩ := idx_zero12 t
  funext a; apply Fin.ext
  match a with
  | ⟨0, _⟩ => show win0_12.index t (0 : Fin 4) * 2 + 1 * (j 0).val = (j 0).val; omega
  | ⟨1, _⟩ => show win0_12.index t (1 : Fin 4) * 120 + 1 * (j 1).val = (j 1).val; omega
  | ⟨2, _⟩ => show win0_12.index t (2 : Fin 4) * 10 + 1 * (j 2).val = (j 2).val; omega
  | ⟨3, _⟩ => show win0_12.index t (3 : Fin 4) * 96 + 1 * (j 3).val = (j 3).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S2x10.Idx) : ((cfg0.win 13).blk t).view.emb j = j := by
  obtain ⟨e0, e1⟩ := idx_zero13 t
  funext a; apply Fin.ext
  match a with
  | ⟨0, _⟩ => show win0_13.index t (0 : Fin 2) * 2 + 1 * (j 0).val = (j 0).val; omega
  | ⟨1, _⟩ => show win0_13.index t (1 : Fin 2) * 10 + 1 * (j 1).val = (j 1).val; omega

/-! ### Output window 8: the array after the run -/

/-- What the window's array ends holding: `out0_8` applied to the argument arrays in place of the input blocks (a value that the
    frame states apart, `kK_payN a…`, keeps its loads inside its own definition). -/
abbrev G8 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S120x10x96 .bf16 :=
  k0_pay14 (k0_pay22 a0 a1 a2 a3 a4 a5 a6 a7) (k0_pay23 a0 a1 a2 a3 a4 a5 a6 a7) (k0_pay24 a0 a1 a2 a3 a4 a5 a6 a7)

/-- The one store through the whole rectangle leaves its payload. -/
theorem out8_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_8 (F := F) a0 a1 a2 a3 a4 a5 a6 a7 = G8 a0 a1 a2 a3 a4 a5 a6 a7 := by
  unfold out0_8
  rw [View.canon_unit_zero hz8]

/-- Cutting the point's block out of `X` and reading `X` through the block's view give the same. -/
theorem cut8_eq (t : Fin cfg0.N) (X : Vec F S120x10x96 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S120x10x96.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S2x120x10x96 .f32 :=
  k0_pay13 (k0_pay22 a0 a1 a2 a3 a4 a5 a6 a7) (k0_pay23 a0 a1 a2 a3 a4 a5 a6 a7) (k0_pay24 a0 a1 a2 a3 a4 a5 a6 a7)

/-- The one store through the whole rectangle leaves its payload. -/
theorem out9_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_9 (F := F) a0 a1 a2 a3 a4 a5 a6 a7 = G9 a0 a1 a2 a3 a4 a5 a6 a7 := by
  unfold out0_9
  rw [View.canon_unit_zero hz9]

/-- Cutting the point's block out of `X` and reading `X` through the block's view give the same. -/
theorem cut9_eq (t : Fin cfg0.N) (X : Vec F S2x120x10x96 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S2x120x10x96.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S2x65536x10x96 .bf16 :=
  k0_pay15 (k0_pay7 a0) (k0_pay24 a0 a1 a2 a3 a4 a5 a6 a7)

/-- A load of the whole of a block reads the block, and the one store through the whole rectangle leaves its payload. -/
theorem out10_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_10 (F := F) a0 a1 a2 a3 a4 a5 a6 a7 = G10 a0 a1 a2 a3 a4 a5 a6 a7 := by
  unfold out0_10
  rw [View.canon_unit_zero hz10, View.ld_unit_zero (S := S120x10x96) hz0 _ a0]

/-- Cutting the point's block out of `X` and reading `X` through the block's view give the same. -/
theorem cut10_eq (t : Fin cfg0.N) (X : Vec F S2x65536x10x96 .bf16) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S2x65536x10x96.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks (a value that the
    frame states apart, `kK_payN a…`, keeps its loads inside its own definition). -/
abbrev G11 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S2x65536x10x96 .bf16 :=
  k0_pay16 (k0_pay11 (k0_pay21 a0 a1 a2 a3 a4 a5 a6 a7) (k0_pay22 a0 a1 a2 a3 a4 a5 a6 a7) a0 a2 a6) (k0_pay12 (k0_pay19 a0 a1 a2 a3 a4 a5 a6 a7))

/-- A load of the whole of a block reads the block, and the one store through the whole rectangle leaves its payload. -/
theorem out11_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_11 (F := F) a0 a1 a2 a3 a4 a5 a6 a7 = G11 a0 a1 a2 a3 a4 a5 a6 a7 := by
  unfold out0_11
  rw [View.canon_unit_zero hz11, View.ld_unit_zero (S := S120x10x96) hz0 _ a0, View.ld_unit_zero (S := S2x10) hz2 _ a2, View.ld_unit_zero (S := S2x10x120) hz6 _ a6]

/-- Cutting the point's block out of `X` and reading `X` through the block's view give the same. -/
theorem cut11_eq (t : Fin cfg0.N) (X : Vec F S2x65536x10x96 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S2x65536x10x96.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ### Output window 12: the array after the run -/

/-- What the window's array ends holding: `out0_12` applied to the argument arrays in place of the input blocks (a value that the
    frame states apart, `kK_payN a…`, keeps its loads inside its own definition). -/
abbrev G12 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S2x120x10x96 .fp8e5m2 :=
  k0_pay17 (k0_pay20 a0 a1 a2 a3 a4 a5 a6 a7)

/-- The one store through the whole rectangle leaves its payload. -/
theorem out12_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_12 (F := F) a0 a1 a2 a3 a4 a5 a6 a7 = G12 a0 a1 a2 a3 a4 a5 a6 a7 := by
  unfold out0_12
  rw [View.canon_unit_zero hz12]

/-- Cutting the point's block out of `X` and reading `X` through the block's view give the same. -/
theorem cut12_eq (t : Fin cfg0.N) (X : Vec F S2x120x10x96 .fp8e5m2) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq]
  exact cut12_eq t _

/-- Every index of the array is in the point's block. -/
theorem covered12 (i : S2x120x10x96.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 12 (G12 (V m c main_arg0) (V m c main_arg1) (V m c main_arg2) (V m c main_arg3) (V m c main_arg4) (V m c main_arg5) (V m c main_arg6) (V m c main_arg7)) (fun t _ => flushed12_eq m c t) covered12).trans (by rw [V_main_arg0, V_main_arg1, V_main_arg2, V_main_arg3, V_main_arg4, V_main_arg5, V_main_arg6, V_main_arg7])

/-! ### Output window 13: the array after the run -/

/-- What the window's array ends holding: `out0_13` applied to the argument arrays in place of the input blocks (a value that the
    frame states apart, `kK_payN a…`, keeps its loads inside its own definition). -/
abbrev G13 (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : Vec F S2x10 .f32 :=
  k0_pay18 (k0_pay19 a0 a1 a2 a3 a4 a5 a6 a7)

/-- The one store through the whole rectangle leaves its payload. -/
theorem out13_eq (a0 : Vec F S120x10x96 .bf16) (a1 : Vec F S2x65536x10x96 .fp8e4m3) (a2 : Vec F S2x10 .f32) (a3 : Vec F S2x65536x10x96 .fp8e4m3) (a4 : Vec F S2x10 .f32) (a5 : Vec F S2x120x10x96 .bf16) (a6 : Vec F S2x10x120 .f32) (a7 : Vec F S2x120x10x96 .bf16) : out0_13 (F := F) a0 a1 a2 a3 a4 a5 a6 a7 = G13 a0 a1 a2 a3 a4 a5 a6 a7 := by
  unfold out0_13
  rw [View.canon_unit_zero hz13]

/-- Cutting the point's block out of `X` and reading `X` through the block's view give the same. -/
theorem cut13_eq (t : Fin cfg0.N) (X : Vec F S2x10 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq]
  exact cut13_eq t _

/-- Every index of the array is in the point's block. -/
theorem covered13 (i : S2x10.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 13 (G13 (V m c main_arg0) (V m c main_arg1) (V m c main_arg2) (V m c main_arg3) (V m c main_arg4) (V m c main_arg5) (V m c main_arg6) (V m c main_arg7)) (fun t _ => flushed13_eq m c t) covered13).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_4) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_5) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RefValue.lean ====
/- What the reference leaves in each of its six results, entry by entry, at the ideal numbers. -/
module

public import proofs.«01_k».proof.Proof.RefRun
public import proofs.«01_k».proof.Proof.Spec

@[expose] public section

noncomputable section

namespace Cert.ReferenceIdeal.Value

open Cert.ReferenceIdeal Cert.ReferenceIdeal.Gen Idealize.ShloMosaic Idealize.ShloMosaic.ValueIdx Cert.Spec

/-! ## The reductions and products, at an index -/

/-- Products over the last axis of both operands, row by row. -/
theorem matmul_qk (X : FVec Ideal S20x120x96 .bf16) (Y : FVec Ideal S20x65536x96 .bf16) (i : Fin 20) (l : Fin 120) (n : Fin 65536) :
    (matmul dot_S20x120x96_S20x65536x96_S20x120x65536_2_2_1_1_0_0 none X Y (constant S20x120x65536 .f32 0x00000000#32) : FVec Ideal S20x120x65536 .f32) (ix3 i l n)
      = ∑ e : Fin 96, X (ix3 i l e) * Y (ix3 i n e) := by
  simp only [matmul]
  rw [Ideal.matmul_constant_zero_apply, ← Equiv.sum_comp (contrEquiv1 dot_S20x120x96_S20x65536x96_S20x120x65536_2_2_1_1_0_0 96 rfl rfl).symm]
  refine Finset.sum_congr rfl fun e _ => ?_
  have hk := contrEquiv1_symm_val dot_S20x120x96_S20x65536x96_S20x120x65536_2_2_1_1_0_0 96 rfl rfl e
  refine congrArg₂ (· * ·) (congrArg X (funext fun a => Fin.ext ?_)) (congrArg Y (funext fun a => Fin.ext ?_))
  · match a with
    | ⟨0, _⟩ => rfl
    | ⟨1, _⟩ => rfl
    | ⟨2, _⟩ => exact hk
  · match a with
    | ⟨0, _⟩ => rfl
    | ⟨1, _⟩ => rfl
    | ⟨2, _⟩ => exact hk

/-- Products over the query axis of both operands. -/
theorem matmul_ln (X : FVec Ideal S20x120x65536 .bf16) (Y : FVec Ideal S20x120x96 .bf16) (i : Fin 20) (n : Fin 65536) (e : Fin 96) :
    (matmul dot_S20x120x65536_S20x120x96_S20x65536x96_1_1_2_2_0_0 none X Y (constant S20x65536x96 .f32 0x00000000#32) : FVec Ideal S20x65536x96 .f32) (ix3 i n e)
      = ∑ l : Fin 120, X (ix3 i l n) * Y (ix3 i l e) := by
  simp only [matmul]
  rw [Ideal.matmul_constant_zero_apply, ← Equiv.sum_comp (contrEquiv1 dot_S20x120x65536_S20x120x96_S20x65536x96_1_1_2_2_0_0 120 rfl rfl).symm]
  refine Finset.sum_congr rfl fun l _ => ?_
  have hk := contrEquiv1_symm_val dot_S20x120x65536_S20x120x96_S20x65536x96_1_1_2_2_0_0 120 rfl rfl l
  refine congrArg₂ (· * ·) (congrArg X (funext fun a => Fin.ext ?_)) (congrArg Y (funext fun a => Fin.ext ?_))
  · match a with
    | ⟨0, _⟩ => rfl
    | ⟨1, _⟩ => exact hk
    | ⟨2, _⟩ => rfl
  · match a with
    | ⟨0, _⟩ => rfl
    | ⟨1, _⟩ => exact hk
    | ⟨2, _⟩ => rfl

/-- Products over the key axis. -/
theorem matmul_dq (X : FVec Ideal S20x120x65536 .bf16) (Y : FVec Ideal S20x65536x96 .bf16) (i : Fin 20) (l : Fin 120) (e : Fin 96) :
    (matmul dot_S20x120x65536_S20x65536x96_S20x120x96_2_1_1_2_0_0 none X Y (constant S20x120x96 .f32 0x00000000#32) : FVec Ideal S20x120x96 .f32) (ix3 i l e)
      = ∑ n : Fin 65536, X (ix3 i l n) * Y (ix3 i n e) := by
  simp only [matmul]
  rw [Ideal.matmul_constant_zero_apply, ← Equiv.sum_comp (contrEquiv1 dot_S20x120x65536_S20x65536x96_S20x120x96_2_1_1_2_0_0 65536 rfl rfl).symm]
  refine Finset.sum_congr rfl fun n _ => ?_
  have hk := contrEquiv1_symm_val dot_S20x120x65536_S20x65536x96_S20x120x96_2_1_1_2_0_0 65536 rfl rfl n
  refine congrArg₂ (· * ·) (congrArg X (funext fun a => Fin.ext ?_)) (congrArg Y (funext fun a => Fin.ext ?_))
  · match a with
    | ⟨0, _⟩ => rfl
    | ⟨1, _⟩ => rfl
    | ⟨2, _⟩ => exact hk
  · match a with
    | ⟨0, _⟩ => rfl
    | ⟨1, _⟩ => exact hk
    | ⟨2, _⟩ => rfl

theorem lift_last (h : S20x120x96.Reduces [2] S20x120) (i : Fin 20) (l : Fin 120) (e : Fin 96) : h.lift (ix2 i l) e = ix3 i l e := by
  funext a
  match a with
  | ⟨0, _⟩ => rfl
  | ⟨1, _⟩ => rfl
  | ⟨2, _⟩ => rfl
theorem lift_mid (h : S20x120x1.Reduces [1] S20x1) (i : Fin 20) (l : Fin 120) : h.lift (ix2 i 0) l = ix3 i l 0 := by
  funext a
  match a with
  | ⟨0, _⟩ => rfl
  | ⟨1, _⟩ => rfl
  | ⟨2, _⟩ => rfl

/-- The sum over the last axis, and the two maxima. -/
theorem sum_last (X : FVec Ideal S20x120x96 .f32) (hφ : FKind.Formats .f32) (hacc : (0x00000000#32 : BitVec 32) = FKind.add.neutral .f32 hφ) (i : Fin 20) (l : Fin 120) :
    multiReduction .add [2] S20x120 X 0x00000000#32 reduces_S20x120x96_S20x120 hφ hacc (ix2 i l) = ∑ e : Fin 96, X (ix3 i l e) :=
  (Ideal.multiReduction_add_single _ _ _ _ _ _).trans (Finset.sum_congr rfl fun e _ => congrArg X (lift_last _ i l e))
theorem max_last (X : FVec Ideal S20x120x96 .f32) (hφ : FKind.Formats .f32) (hacc : (0xFF800000#32 : BitVec 32) = FKind.maximumf.neutral .f32 hφ) (i : Fin 20) (l : Fin 120) :
    multiReduction .maximumf [2] S20x120 X 0xFF800000#32 reduces_S20x120x96_S20x120 hφ hacc (ix2 i l) = Finset.univ.sup fun e : Fin 96 => X (ix3 i l e) :=
  (Ideal.multiReduction_maximumf_single _ _ _ _ _ _).trans ((fold_max _).trans (Finset.sup_congr rfl fun e _ => congrArg X (lift_last _ i l e)))
theorem max_mid (X : FVec Ideal S20x120x1 .f32) (hφ : FKind.Formats .f32) (hacc : (0xFF800000#32 : BitVec 32) = FKind.maximumf.neutral .f32 hφ) (i : Fin 20) :
    multiReduction .maximumf [1] S20x1 X 0xFF800000#32 reduces_S20x120x1_S20x1 hφ hacc (ix2 i 0) = Finset.univ.sup fun l : Fin 120 => X (ix3 i l 0) :=
  (Ideal.multiReduction_maximumf_single _ _ _ _ _ _).trans ((fold_max _).trans (Finset.sup_congr rfl fun l _ => congrArg X (lift_mid _ i l)))

/-! ## The payloads, at an index -/

variable (a : Args)

theorem pay1_apply (b : Fin 2) (h : Fin 10) (l : Fin 120) (e : Fin 96) :
    k0_pay1 (F := Ideal) a.d (ix3 (row b h) l e) = a.d (ix4 b l h e) :=
  heads_apply (extf (F := Ideal) .f32 (φ := .bf16) a.d bitsLt_bf16_f32) _ _ b h l e

/-- The exponent. -/
theorem pay2_apply (b : Fin 2) (h : Fin 10) : k0_pay2 (F := Ideal) a.d (ix3 (row b h) 0 0) = a.ex b h := by
  have e9 : (shapeCast S20x1x1 (multiReduction (F := Ideal) .maximumf [1] S20x1 (shapeCast S20x120x1
        (multiReduction (F := Ideal) .maximumf [2] S20x120 (absf (k0_pay1 (F := Ideal) a.d)) 0xFF800000#32 reduces_S20x120x96_S20x120 (.inl rfl) rfl) shapeCasts_S20x120_S20x120x1)
        0xFF800000#32 reduces_S20x120x1_S20x1 (.inl rfl) rfl) shapeCasts_S20x1_S20x1x1) (ix3 (row b h) 0 0)
      = Finset.univ.sup fun l : Fin 120 => Finset.univ.sup fun e : Fin 96 => max (a.d (ix4 b l h e)) (-a.d (ix4 b l h e)) := by
    refine (addUnit_apply _ _ (row b h) 0).trans ((max_mid _ _ _ _).trans (Finset.sup_congr rfl fun l _ =>
      (addUnit_apply _ _ (row b h) l).trans ((max_last _ _ _ _ _).trans (Finset.sup_congr rfl fun e _ => ?_))))
    show max (k0_pay1 (F := Ideal) a.d (ix3 (row b h) l e)) (-(k0_pay1 (F := Ideal) a.d (ix3 (row b h) l e))) = _
    rw [pay1_apply]
  unfold k0_pay2
  show Scalar.select (Ideal.cmp .olt (_ * inv57344) tiny) (Ideal.ofBits .f32 0x00000000#32) (Ideal.liftRound Int.floor (Ideal.log (_ * inv57344) * (Named.named (F := Ideal) κ "log2e" (φ := .f32) 0x3FB8AA3B#32)) + one) = _
  rw [e9, show (Named.named (F := Ideal) κ "log2e" (φ := .f32) 0x3FB8AA3B#32) = L from IdealRules.named_const.ideal_named_scalar _ _ _ _ rfl, Ideal.ofBits_zero_f32, select_olt]
  rfl

theorem pay3_apply (b : Fin 2) (h : Fin 10) : k0_pay3 (F := Ideal) a.d (ix3 (row b h) 0 0) = a.scale b h :=
  congrArg Ideal.exp2 (pay2_apply a b h)

theorem pay4_apply (b : Fin 2) (h : Fin 10) (l : Fin 120) (e : Fin 96) : k0_pay4 (F := Ideal) a.d (ix3 (row b h) l e) = a.code b h l e := by
  unfold k0_pay4
  show min hi (max lo (k0_pay1 (F := Ideal) a.d (ix3 (row b h) l e) * broadcastTo S20x120x96 _ broadcasts_S20x1x1_S20x120x96 (ix3 (row b h) l e))) = _
  rw [pay1_apply, spread1_apply (by decide)]
  show min hi (max lo (_ * Ideal.exp2 (Ideal.ofBits .f32 0x00000000#32 - k0_pay2 (F := Ideal) a.d (ix3 (row b h) 0 0)))) = _
  rw [pay2_apply, Ideal.ofBits_zero_f32]
  rfl

theorem pay5_apply (b : Fin 2) (h : Fin 10) (l : Fin 120) (e : Fin 96) : k0_pay5 (F := Ideal) a.d (ix3 (row b h) l e) = a.code b h l e := pay4_apply a b h l e

theorem pay6_apply (x : FVec Ideal S2x65536x10x96 .fp8e4m3) (b : Fin 2) (h : Fin 10) (n : Fin 65536) (e : Fin 96) :
    k0_pay6 (F := Ideal) x (ix3 (row b h) n e) = x (ix4 b n h e) :=
  heads_apply (extf .bf16 x bitsLt_fp8e4m3_bf16) _ _ b h n e

theorem pay7_apply (b : Fin 2) (h : Fin 10) (l : Fin 120) (e : Fin 96) : k0_pay7 (F := Ideal) a.q (ix3 (row b h) l e) = a.q (ix3 l h e) := by
  have ht : ∀ j : Fin 10, transpose S10x120x96 [1, 0, 2] a.q transposes_S120x10x96_p1_0_2_S10x120x96 (ix3 j l e) = a.q (ix3 l j e) := fun j =>
    transpose_apply _ _ _ _ _ (fun c => match c with | ⟨0, _⟩ => rfl | ⟨1, _⟩ => rfl | ⟨2, _⟩ => rfl)
  unfold k0_pay7
  match b with
  | ⟨0, _⟩ =>
    refine Eq.trans (concatenate_pair_apply_left (t := S20x120x96) (s₁ := S10x120x96) (s₂ := S10x120x96) 0 _ _ _ (ix3 (row 0 h) l e) rfl (ix3 h l e) (fun c => match c with | ⟨0, _⟩ => ?_ | ⟨1, _⟩ => rfl | ⟨2, _⟩ => rfl)) (ht h)
    show h.val = 0 * 10 + h.val
    omega
  | ⟨1, _⟩ =>
    refine Eq.trans (concatenate_pair_apply_right (t := S20x120x96) (s₁ := S10x120x96) (s₂ := S10x120x96) 0 _ _ _ (ix3 (row 1 h) l e) rfl rfl (ix3 h l e) (fun c hc => match c with | ⟨0, _⟩ => absurd rfl hc | ⟨1, _⟩ => rfl | ⟨2, _⟩ => rfl) ?_) (ht h)
    show h.val + 10 = 1 * 10 + h.val
    omega

theorem pay8_apply (b : Fin 2) (h : Fin 10) : k0_pay8 (F := Ideal) a.ks (ix3 (row b h) 0 0) = a.ks (ix2 b h) := table_apply _ _ b h

/-- The probabilities. -/
theorem pay9_apply (b : Fin 2) (h : Fin 10) (l : Fin 120) (n : Fin 65536) :
    k0_pay9 (F := Ideal) (k0_pay6 (F := Ideal) a.k) a.q a.ks a.lse (ix3 (row b h) l n) = a.p b h l n := by
  unfold k0_pay9
  show Ideal.exp (broadcastTo S20x120x65536 _ broadcasts_S20x1x1_S20x120x65536 (ix3 (row b h) l n) * matmul (F := Ideal) _ none _ _ _ (ix3 (row b h) l n)
    - broadcastTo S20x120x65536 _ broadcasts_S20x120x1_S20x120x65536 (ix3 (row b h) l n)) = _
  rw [spread1_apply (by decide), spread2_apply (by decide) (by decide), matmul_qk, rows_apply]
  show Ideal.exp ((sm * k0_pay8 (F := Ideal) a.ks (ix3 (row b h) 0 0)) * _ - _) = _
  rw [pay8_apply]
  unfold Args.p
  simp only [pay7_apply, pay6_apply]

/-- The score gradients. -/
theorem pay10_apply (b : Fin 2) (h : Fin 10) (l : Fin 120) (n : Fin 65536) :
    k0_pay10 (F := Ideal) (k0_pay3 (F := Ideal) a.d) (k0_pay4 (F := Ideal) a.d) (k0_pay5 (F := Ideal) a.d) (k0_pay6 (F := Ideal) a.k) a.v a.q a.ks a.vs a.lse a.o (ix3 (row b h) l n)
      = a.ds b h l n := by
  unfold k0_pay10
  show k0_pay9 (F := Ideal) (k0_pay6 (F := Ideal) a.k) a.q a.ks a.lse (ix3 (row b h) l n)
    * (broadcastTo S20x120x65536 _ broadcasts_S20x1x1_S20x120x65536 (ix3 (row b h) l n) * matmul (F := Ideal) _ none _ _ _ (ix3 (row b h) l n)
      - broadcastTo S20x120x65536 _ broadcasts_S20x120x1_S20x120x65536 (ix3 (row b h) l n)) = _
  rw [pay9_apply, spread1_apply (by decide), spread2_apply (by decide) (by decide), matmul_qk, addUnit_apply]
  show a.p b h l n * ((k0_pay3 (F := Ideal) a.d (ix3 (row b h) 0 0) * shapeCast S20x1x1 a.vs _ (ix3 (row b h) 0 0)) * _ - _) = _
  rw [pay3_apply, table_apply]
  unfold Args.ds Args.delta
  refine congrArg (a.p b h l n * ·) (congrArg₂ (· - ·) (congrArg ((a.scale b h * a.vs (ix2 b h)) * ·) (Finset.sum_congr rfl fun e _ => ?_)) ((sum_last _ _ _ _ _).trans (Finset.sum_congr rfl fun e _ => ?_)))
  · rw [pay5_apply, heads_apply]; rfl
  · show (k0_pay4 (F := Ideal) a.d (ix3 (row b h) l e) * broadcastTo S20x120x96 _ broadcasts_S20x1x1_S20x120x96 (ix3 (row b h) l e)) * shapeCast S20x120x96 _ _ (ix3 (row b h) l e) = _
    rw [pay4_apply, spread1_apply (by decide), pay3_apply, heads_apply]; rfl

/-! ## The six results -/

theorem zero4 : (![0, 0, 0, 0] : Fin 4 → ℕ) = fun _ => 0 := by funext i; fin_cases i <;> rfl
theorem zero3 : (![0, 0, 0] : Fin 3 → ℕ) = fun _ => 0 := by funext i; fin_cases i <;> rfl
theorem zero2 : (![0, 0] : Fin 2 → ℕ) = fun _ => 0 := by funext i; fin_cases i <;> rfl

theorem ld_do (x : Vec Ideal S2x120x10x96 .bf16) : View.ld x r0_0 = x := View.ld_unit_zero (S := S2x120x10x96) zero4 _ x
theorem ld_kv (x : Vec Ideal S2x65536x10x96 .fp8e4m3) : View.ld x r0_1 = x := View.ld_unit_zero (S := S2x65536x10x96) zero4 _ x
theorem ld_q (x : Vec Ideal S120x10x96 .bf16) : View.ld x r0_2 = x := View.ld_unit_zero (S := S120x10x96) zero3 _ x
theorem ld_s (x : Vec Ideal S2x10 .f32) : View.ld x r0_3 = x := View.ld_unit_zero (S := S2x10) zero2 _ x
theorem ld_l (x : Vec Ideal S2x10x120 .f32) : View.ld x r0_4 = x := View.ld_unit_zero (S := S2x10x120) zero3 _ x

theorem pay19_eq : k0_pay19 (F := Ideal) a.q a.k a.ks a.v a.vs a.o a.lse a.d = k0_pay3 (F := Ideal) a.d := by
  unfold k0_pay19; rw [ld_do]
theorem pay20_eq : k0_pay20 (F := Ideal) a.q a.k a.ks a.v a.vs a.o a.lse a.d = k0_pay4 (F := Ideal) a.d := by
  unfold k0_pay20; rw [ld_do]
theorem pay21_eq : k0_pay21 (F := Ideal) a.q a.k a.ks a.v a.vs a.o a.lse a.d = k0_pay5 (F := Ideal) a.d := by
  unfold k0_pay21; rw [ld_do]
theorem pay22_eq : k0_pay22 (F := Ideal) a.q a.k a.ks a.v a.vs a.o a.lse a.d = k0_pay6 (F := Ideal) a.k := by
  unfold k0_pay22; rw [ld_kv]
theorem pay23_eq : k0_pay23 (F := Ideal) a.q a.k a.ks a.v a.vs a.o a.lse a.d = k0_pay8 (F := Ideal) a.ks := by
  unfold k0_pay23; rw [ld_s]
theorem pay24_apply (b : Fin 2) (h : Fin 10) (l : Fin 120) (n : Fin 65536) :
    k0_pay24 (F := Ideal) a.q a.k a.ks a.v a.vs a.o a.lse a.d (ix3 (row b h) l n) = a.ds b h l n := by
  unfold k0_pay24; rw [pay19_eq, pay20_eq, pay21_eq, pay22_eq, ld_kv, ld_q, ld_s, ld_s, ld_l, ld_do]; exact pay10_apply a b h l n

/-- The query gradient of each batch. -/
theorem G9_apply (b : Fin 2) (l : Fin 120) (h : Fin 10) (e : Fin 96) :
    G9 (F := Ideal) a.q a.k a.ks a.v a.vs a.o a.lse a.d (ix4 b l h e) = a.dqs b l h e := by
  unfold G9 k0_pay13
  refine (unheads_apply _ _ _ b h l e).trans ?_
  show broadcastTo S20x120x96 _ broadcasts_S20x1x1_S20x120x96 (ix3 (row b h) l e) * matmul (F := Ideal) _ none _ _ _ (ix3 (row b h) l e) = _
  rw [spread1_apply (by decide), matmul_dq]
  show (sm * k0_pay23 (F := Ideal) a.q a.k a.ks a.v a.vs a.o a.lse a.d (ix3 (row b h) 0 0)) * _ = _
  rw [pay23_eq, pay8_apply, pay22_eq]
  unfold Args.dqs
  simp only [pay24_apply, pay6_apply]

/-- The query gradient, summed over the batches. -/
theorem G8_apply (l : Fin 120) (h : Fin 10) (e : Fin 96) :
    G8 (F := Ideal) a.q a.k a.ks a.v a.vs a.o a.lse a.d (ix3 l h e) = a.dq l h e := by
  unfold G8 k0_pay14
  have h0 := extractStridedSlice_apply _ (k0_pay13 (F := Ideal) (k0_pay22 a.q a.k a.ks a.v a.vs a.o a.lse a.d) (k0_pay23 a.q a.k a.ks a.v a.vs a.o a.lse a.d) (k0_pay24 a.q a.k a.ks a.v a.vs a.o a.lse a.d)) slices_S2x120x10x96_o0_0_0_0_S1x120x10x96 (ix4 0 l h e) (ix4 0 l h e)
    (fun c => match c with | ⟨0, _⟩ => rfl | ⟨1, _⟩ => (Nat.zero_add _).symm | ⟨2, _⟩ => (Nat.zero_add _).symm | ⟨3, _⟩ => (Nat.zero_add _).symm)
  have h1 := extractStridedSlice_apply _ (k0_pay13 (F := Ideal) (k0_pay22 a.q a.k a.ks a.v a.vs a.o a.lse a.d) (k0_pay23 a.q a.k a.ks a.v a.vs a.o a.lse a.d) (k0_pay24 a.q a.k a.ks a.v a.vs a.o a.lse a.d)) slices_S2x120x10x96_o1_0_0_0_S1x120x10x96 (ix4 0 l h e) (ix4 1 l h e)
    (fun c => match c with | ⟨0, _⟩ => rfl | ⟨1, _⟩ => (Nat.zero_add _).symm | ⟨2, _⟩ => (Nat.zero_add _).symm | ⟨3, _⟩ => (Nat.zero_add _).symm)
  unfold Args.dq
  rw [← G9_apply a 0 l h e, ← G9_apply a 1 l h e]
  exact congrArg₂ (fun x y : EReal => x + y) ((shapeCast_1abc_abc_apply _ shapeCasts_S1x120x10x96_S120x10x96 l h e).trans h0)
    ((shapeCast_1abc_abc_apply _ shapeCasts_S1x120x10x96_S120x10x96 l h e).trans h1)

/-- The key gradient. -/
theorem G10_apply (b : Fin 2) (n : Fin 65536) (h : Fin 10) (e : Fin 96) :
    G10 (F := Ideal) a.q a.k a.ks a.v a.vs a.o a.lse a.d (ix4 b n h e) = a.dk b n h e := by
  unfold G10 k0_pay15
  refine (unheads_apply _ _ _ b h n e).trans ?_
  show sm * matmul (F := Ideal) _ none _ _ _ (ix3 (row b h) n e) = _
  rw [matmul_ln]
  unfold Args.dk
  simp only [pay24_apply, pay7_apply]

/-- The value gradient. -/
theorem G11_apply (b : Fin 2) (n : Fin 65536) (h : Fin 10) (e : Fin 96) :
    G11 (F := Ideal) a.q a.k a.ks a.v a.vs a.o a.lse a.d (ix4 b n h e) = a.dv b n h e := by
  unfold G11 k0_pay16
  refine (unheads_apply _ _ _ b h n e).trans ?_
  unfold k0_pay12 k0_pay11
  show broadcastTo S20x65536x96 _ broadcasts_S20x1x1_S20x65536x96 (ix3 (row b h) n e) * matmul (F := Ideal) _ none _ _ _ (ix3 (row b h) n e) = _
  rw [spread1_apply (by decide), matmul_ln, pay19_eq, pay3_apply]
  unfold Args.dv
  refine congrArg (a.scale b h * ·) (Finset.sum_congr rfl fun l _ => congrArg₂ (· * ·) ?_ ?_)
  · show k0_pay9 (F := Ideal) _ _ _ _ (ix3 (row b h) l n) = _
    rw [pay22_eq, pay9_apply]
  · rw [pay21_eq, pay5_apply]

/-- The codes of the incoming gradient. -/
theorem G12_apply (b : Fin 2) (l : Fin 120) (h : Fin 10) (e : Fin 96) :
    G12 (F := Ideal) a.q a.k a.ks a.v a.vs a.o a.lse a.d (ix4 b l h e) = a.code b h l e := by
  unfold G12 k0_pay17
  refine (unheads_apply _ _ _ b h l e).trans ?_
  rw [pay20_eq, pay4_apply]

/-- Their scales. -/
theorem G13_apply (b : Fin 2) (h : Fin 10) :
    G13 (F := Ideal) a.q a.k a.ks a.v a.vs a.o a.lse a.d (ix2 b h) = a.scale b h := by
  unfold G13 k0_pay18
  refine (untable_apply _ _ b h).trans ?_
  rw [pay19_eq, pay3_apply]

end Cert.ReferenceIdeal.Value

end
-- ==== Proof.lean ====
/- The proof of the certificate: the three programs' frames, the one named constant, and the equality of the kernel's six results with
   the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite_d_out
public import proofs.«01_k».proof.Proof.KernelFrame
public import proofs.«01_k».proof.Proof.KernelArrays
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem Cert.Spec
open Cert.KernelIdeal.Gen (argsOf R0 R1 R2 R3 R4 A13)

/-- The precondition says that no element of the incoming gradient is larger in magnitude than the largest bfloat16 number. -/
theorem bounded (m : (ℓ : Loc Cert.KernelIdeal.nD Cert.KernelIdeal.τ Cert.KernelIdeal.sig) → Buf (Elt Ideal) ℓ)
    (h : Cert.Pre_KernelIdeal_finite_d_out (hPre_finite_d_out := Cert.Pre_finite_d_out.Gen.facts) m) (c : Dev Cert.KernelIdeal.nD) :
    (argsOf m c).Bounded := by
  intro i
  have hi : Ideal.cmp .ole (max ((argsOf m c).d i) (-(argsOf m c).d i)) big = 1#1 := congrFun (h c) i
  by_contra hlt
  have hn : Ideal.cmp .ole (max ((argsOf m c).d i) (-(argsOf m c).d i)) big = 0#1 := congrArg BitVec.ofBool (decide_eq_false hlt)
  exact absurd (hi.symm.trans hn) (by decide)

/-! ## The reference's six results, as arrays -/

variable (a : Args)

theorem ref0 : Cert.ReferenceIdeal.Value.G8 (F := Ideal) a.q a.k a.ks a.v a.vs a.o a.lse a.d = R0 a :=
  funext fun y => (congrArg _ (eq_ix3 y)).trans (Cert.ReferenceIdeal.Value.G8_apply a (y 0) (y 1) (y 2))
theorem ref1 : Cert.ReferenceIdeal.Value.G9 (F := Ideal) a.q a.k a.ks a.v a.vs a.o a.lse a.d = R1 a :=
  funext fun y => (congrArg _ (eq_ix4 y)).trans (Cert.ReferenceIdeal.Value.G9_apply a (y 0) (y 1) (y 2) (y 3))
theorem ref2 : Cert.ReferenceIdeal.Value.G10 (F := Ideal) a.q a.k a.ks a.v a.vs a.o a.lse a.d = R2 a :=
  funext fun y => (congrArg _ (eq_ix4 y)).trans (Cert.ReferenceIdeal.Value.G10_apply a (y 0) (y 1) (y 2) (y 3))
theorem ref3 : Cert.ReferenceIdeal.Value.G11 (F := Ideal) a.q a.k a.ks a.v a.vs a.o a.lse a.d = R3 a :=
  funext fun y => (congrArg _ (eq_ix4 y)).trans (Cert.ReferenceIdeal.Value.G11_apply a (y 0) (y 1) (y 2) (y 3))
theorem ref4 : Cert.ReferenceIdeal.Value.G12 (F := Ideal) a.q a.k a.ks a.v a.vs a.o a.lse a.d = R4 a :=
  funext fun y => (congrArg _ (eq_ix4 y)).trans (Cert.ReferenceIdeal.Value.G12_apply a (y 0) (y 1) (y 2) (y 3))
theorem ref5 : Cert.ReferenceIdeal.Value.G13 (F := Ideal) a.q a.k a.ks a.v a.vs a.o a.lse a.d = A13 a :=
  funext fun y => (congrArg _ (eq_ix2 y)).trans (Cert.ReferenceIdeal.Value.G13_apply a (y 0) (y 1))

/-! ## The claims -/

/-- The kernel and the reference compute the same six results over the extended reals. -/
theorem algebraic : Cert.algebraic_KernelIdeal_ReferenceIdeal_pre_finite_d_out (hKernelIdeal := Cert.KernelIdeal.Gen.facts)
    (hReferenceIdeal := Cert.ReferenceIdeal.Gen.facts) (hPre_finite_d_out := Cert.Pre_finite_d_out.Gen.facts) := by
  intro m g m' g' hpre hargs
  refine ⟨fun c => R0 (argsOf m c), fun c => R1 (argsOf m c), fun c => R2 (argsOf m c), fun c => R3 (argsOf m c),
    fun c => R4 (argsOf m c), fun c => A13 (argsOf m c), ?_, ?_⟩
  · refine (θ_run _ _ _).mono (fun r h c => ?_) (Cert.KernelIdeal.Gen.run (m := m) g (bounded m hpre))
    obtain ⟨⟨h0, h1, h2, h3, h4, h5⟩, hk⟩ := h c
    exact ⟨h0, h1, h2, h3, h4, h5, hk⟩
  · refine (θ_run _ _ _).mono (fun r h c => ?_) (Cert.ReferenceIdeal.Value.run m' g')
    obtain ⟨h0, h1, h2, h3, h4, h5, hk⟩ := h c
    obtain ⟨e0, e1, e2, e3, e4, e5, e6, e7⟩ := hargs c
    rw [e0, e1, e2, e3, e4, e5, e6, e7] at h0 h1 h2 h3 h4 h5
    exact ⟨h0.trans (ref0 (argsOf m c)), h1.trans (ref1 (argsOf m c)), h2.trans (ref2 (argsOf m c)), h3.trans (ref3 (argsOf m c)),
      h4.trans (ref4 (argsOf m c)), h5.trans (ref5 (argsOf m c)), hk⟩

/-- Everything the certificate claims. -/
theorem claim : Cert.Claim :=
  ⟨Cert.Kernel.Gen.facts, Cert.KernelIdeal.Gen.facts, Cert.ReferenceIdeal.Gen.facts, Cert.Pre_finite_d_out.Gen.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    IdealRules.named_const.statement Cert.KernelIdeal.κ "log2e" .f32 0x3FB8AA3B#32 _ rfl,
    algebraic⟩

end Cert.Proof

end
